-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v17_0)) (v1 : (c : Dev Cert.Kernel5Ideal.nD) → Buf (Elt Ideal) ((c.tc : Thread Cert.Kernel5Ideal.nD Cert.Kernel5Ideal.τ).loc Cert.Kernel5Ideal.main_v17_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17_0) = v0 c
          ∧ r.2.mem ((c.tc : Thread Cert.Kernel5Ideal.nD Cert.Kernel5Ideal.τ).loc Cert.Kernel5Ideal.main_v17_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v109) = v0 c
          ∧ r.2.mem ((c.tc : Thread Cert.Reference5Ideal.nD Cert.Reference5Ideal.τ).loc Cert.Reference5Ideal.main_v110) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v12_0)) (v1 : (c : Dev Cert.Kernel6Ideal.nD) → Buf (Elt Ideal) ((c.tc : Thread Cert.Kernel6Ideal.nD Cert.Kernel6Ideal.τ).loc Cert.Kernel6Ideal.main_v12_1)) (v2 : (c : Dev Cert.Kernel6Ideal.nD) → Buf (Elt Ideal) ((c.tc : Thread Cert.Kernel6Ideal.nD Cert.Kernel6Ideal.τ).loc Cert.Kernel6Ideal.main_v12_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12_0) = v0 c
          ∧ r.2.mem ((c.tc : Thread Cert.Kernel6Ideal.nD Cert.Kernel6Ideal.τ).loc Cert.Kernel6Ideal.main_v12_1) = v1 c
          ∧ r.2.mem ((c.tc : Thread Cert.Kernel6Ideal.nD Cert.Kernel6Ideal.τ).loc Cert.Kernel6Ideal.main_v12_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v29) = v0 c
          ∧ r.2.mem ((c.tc : Thread Cert.Reference6Ideal.nD Cert.Reference6Ideal.τ).loc Cert.Reference6Ideal.main_v31) = v1 c
          ∧ r.2.mem ((c.tc : Thread Cert.Reference6Ideal.nD Cert.Reference6Ideal.τ).loc Cert.Reference6Ideal.main_v32) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S16384x14336 : Shape := ⟨2, ![16384, 14336]⟩
abbrev S16384x128 : Shape := ⟨2, ![16384, 128]⟩
abbrev S1x32 : Shape := ⟨2, ![1, 32]⟩
abbrev S1x2048 : Shape := ⟨2, ![1, 2048]⟩
abbrev S128x16384 : Shape := ⟨2, ![128, 16384]⟩
abbrev S32x16384 : Shape := ⟨2, ![32, 16384]⟩
abbrev S8x4x256x64 : Shape := ⟨4, ![8, 4, 256, 64]⟩
abbrev S8x256x4x64 : Shape := ⟨4, ![8, 256, 4, 64]⟩
abbrev S8x256x256 : Shape := ⟨3, ![8, 256, 256]⟩
abbrev S32 : Shape := ⟨1, ![32]⟩
abbrev S32x64 : Shape := ⟨2, ![32, 64]⟩
abbrev S2048 : Shape := ⟨1, ![2048]⟩
abbrev S16384x2048 : Shape := ⟨2, ![16384, 2048]⟩
abbrev S512x256 : Shape := ⟨2, ![512, 256]⟩
abbrev S512x128 : Shape := ⟨2, ![512, 128]⟩
abbrev S1x8x256 : Shape := ⟨3, ![1, 8, 256]⟩
abbrev S1x256 : Shape := ⟨2, ![1, 256]⟩
abbrev S128x256 : Shape := ⟨2, ![128, 256]⟩
abbrev S512 : Shape := ⟨1, ![512]⟩
abbrev S512x1 : Shape := ⟨2, ![512, 1]⟩
abbrev S64x256 : Shape := ⟨2, ![64, 256]⟩
abbrev S64x128 : Shape := ⟨2, ![64, 128]⟩
abbrev S1x1x256 : Shape := ⟨3, ![1, 1, 256]⟩
abbrev S256x128 : Shape := ⟨2, ![256, 128]⟩
abbrev S256x256 : Shape := ⟨2, ![256, 256]⟩
abbrev S64 : Shape := ⟨1, ![64]⟩
abbrev S64x1 : Shape := ⟨2, ![64, 1]⟩

abbrev nBuf : Space → Nat
  | .hbm => 17
  | .vmem => 23
  | .smem => 0
  | _ => 0

abbrev bufTy : (tb : Table) → Fin (tcTables nBuf tb) → BufTy
  | .hbm, ⟨0, _⟩ => ⟨S16384x14336, .f32⟩
  | .hbm, ⟨1, _⟩ => ⟨S16384x128, .f32⟩
  | .hbm, ⟨2, _⟩ => ⟨S16384x128, .f32⟩
  | .hbm, ⟨3, _⟩ => ⟨S1x32, .f32⟩
  | .hbm, ⟨4, _⟩ => ⟨S1x2048, .f32⟩
  | .hbm, ⟨5, _⟩ => ⟨S128x16384, .f32⟩
  | .hbm, ⟨6, _⟩ => ⟨S32x16384, .f32⟩
  | .hbm, ⟨7, _⟩ => ⟨S8x4x256x64, .f32⟩
  | .hbm, ⟨8, _⟩ => ⟨S8x256x4x64, .f32⟩
  | .hbm, ⟨9, _⟩ => ⟨S8x256x256, .f32⟩
  | .hbm, ⟨10, _⟩ => ⟨S32, .f32⟩
  | .hbm, ⟨11, _⟩ => ⟨S32x64, .f32⟩
  | .hbm, ⟨12, _⟩ => ⟨S2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S16384x2048, .bf16⟩
  | .local _ .vmem, ⟨0, _⟩ => ⟨S512x256, .f32⟩
  | .local _ .vmem, ⟨1, _⟩ => ⟨S512x256, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x256, .f32⟩
  | .local _ .vmem, ⟨7, _⟩ => ⟨S512x256, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x8x256, .f32⟩
  | .local _ .vmem, ⟨13, _⟩ => ⟨S1x8x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S512x256, .bf16⟩
  | .local _ .vmem, ⟨19, _⟩ => ⟨S512x256, .bf16⟩
  | .local _ .vmem, ⟨20, _⟩ => ⟨S128x256, .f32⟩
  | .local _ .vmem, ⟨21, _⟩ => ⟨S512x256, .f32⟩
  | .local _ .vmem, ⟨22, _⟩ => ⟨S512x256, .f32⟩
  | _, _ => ⟨S16384x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 8, 16], ![false, false, false]⟩

def k0_mult1 : BitVec 32 :=
  let c0_i32_45 : BitVec 32 := 0#32
  let c8_i32 : BitVec 32 := 8#32
  let v128 : BitVec 32 := Scalar.muli c0_i32_45 c8_i32
  let c0_i32_46 : BitVec 32 := 0#32
  let v129 : BitVec 32 := Scalar.addi v128 c0_i32_46
  let c64_i32 : BitVec 32 := 64#32
  let v144 : BitVec 32 := Scalar.muli v129 c64_i32
  v144
def k0_mult2 : BitVec 32 :=
  let c0_i32_45 : BitVec 32 := 0#32
  let c8_i32_47 : BitVec 32 := 8#32
  let v130 : BitVec 32 := Scalar.muli c0_i32_45 c8_i32_47
  let c1_i32_48 : BitVec 32 := 1#32
  let v131 : BitVec 32 := Scalar.addi v130 c1_i32_48
  let c64_i32_59 : BitVec 32 := 64#32
  let v146 : BitVec 32 := Scalar.muli v131 c64_i32_59
  v146
def k0_mult3 : BitVec 32 :=
  let c0_i32_45 : BitVec 32 := 0#32
  let c8_i32_49 : BitVec 32 := 8#32
  let v132 : BitVec 32 := Scalar.muli c0_i32_45 c8_i32_49
  let c2_i32_50 : BitVec 32 := 2#32
  let v133 : BitVec 32 := Scalar.addi v132 c2_i32_50
  let c64_i32_60 : BitVec 32 := 64#32
  let v148 : BitVec 32 := Scalar.muli v133 c64_i32_60
  v148
def k0_mult4 : BitVec 32 :=
  let c0_i32_45 : BitVec 32 := 0#32
  let c8_i32_51 : BitVec 32 := 8#32
  let v134 : BitVec 32 := Scalar.muli c0_i32_45 c8_i32_51
  let c3_i32_52 : BitVec 32 := 3#32
  let v135 : BitVec 32 := Scalar.addi v134 c3_i32_52
  let c64_i32_61 : BitVec 32 := 64#32
  let v150 : BitVec 32 := Scalar.muli v135 c64_i32_61
  v150
def k0_mult5 : BitVec 32 :=
  let c0_i32_45 : BitVec 32 := 0#32
  let c8_i32_53 : BitVec 32 := 8#32
  let v136 : BitVec 32 := Scalar.muli c0_i32_45 c8_i32_53
  let c4_i32_54 : BitVec 32 := 4#32
  let v137 : BitVec 32 := Scalar.addi v136 c4_i32_54
  let c64_i32_62 : BitVec 32 := 64#32
  let v152 : BitVec 32 := Scalar.muli v137 c64_i32_62
  v152
def k0_mult6 : BitVec 32 :=
  let c0_i32_45 : BitVec 32 := 0#32
  let c8_i32_55 : BitVec 32 := 8#32
  let v138 : BitVec 32 := Scalar.muli c0_i32_45 c8_i32_55
  let c5_i32 : BitVec 32 := 5#32
  let v139 : BitVec 32 := Scalar.addi v138 c5_i32
  let c64_i32_63 : BitVec 32 := 64#32
  let v154 : BitVec 32 := Scalar.muli v139 c64_i32_63
  v154
def k0_mult7 : BitVec 32 :=
  let c0_i32_45 : BitVec 32 := 0#32
  let c8_i32_56 : BitVec 32 := 8#32
  let v140 : BitVec 32 := Scalar.muli c0_i32_45 c8_i32_56
  let c6_i32_57 : BitVec 32 := 6#32
  let v141 : BitVec 32 := Scalar.addi v140 c6_i32_57
  let c64_i32_64 : BitVec 32 := 64#32
  let v156 : BitVec 32 := Scalar.muli v141 c64_i32_64
  v156
def k0_mult8 : BitVec 32 :=
  let c0_i32_45 : BitVec 32 := 0#32
  let c8_i32_58 : BitVec 32 := 8#32
  let v142 : BitVec 32 := Scalar.muli c0_i32_45 c8_i32_58
  let c7_i32 : BitVec 32 := 7#32
  let v143 : BitVec 32 := Scalar.addi v142 c7_i32
  let c64_i32_65 : BitVec 32 := 64#32
  let v158 : BitVec 32 := Scalar.muli v143 c64_i32_65
  v158
def k0_off1 (c0_i32_46 : BitVec 32) : Fin 2 → Nat :=
  let c0_i32_45 : BitVec 32 := 0#32
  let c8_i32 : BitVec 32 := 8#32
  let v128 : BitVec 32 := Scalar.muli c0_i32_45 c8_i32
  let v129 : BitVec 32 := Scalar.addi v128 c0_i32_46
  let c64_i32 : BitVec 32 := 64#32
  let v144 : BitVec 32 := Scalar.muli v129 c64_i32
  let v145 : BitVec 32 := v144
  let v160 : Index := Scalar.indexCast v145
  let c0_66 : Index := 0#32
  ![v160.toNat, 0]
def k0_off2 (c0_i32_46 : BitVec 32) : Fin 2 → Nat :=
  let c0_i32_45 : BitVec 32 := 0#32
  let c8_i32 : BitVec 32 := 8#32
  let v128 : BitVec 32 := Scalar.muli c0_i32_45 c8_i32
  let v129 : BitVec 32 := Scalar.addi v128 c0_i32_46
  let c64_i32 : BitVec 32 := 64#32
  let v144 : BitVec 32 := Scalar.muli v129 c64_i32
  let v145 : BitVec 32 := v144
  let v176 : Index := Scalar.indexCast v145
  let c0_74 : Index := 0#32
  ![v176.toNat, 0]
def k0_off3 (c0_i32_46 : BitVec 32) : Fin 3 → Nat :=
  let c0_106 : Index := 0#32
  let c0_i32_45 : BitVec 32 := 0#32
  let c8_i32 : BitVec 32 := 8#32
  let v128 : BitVec 32 := Scalar.muli c0_i32_45 c8_i32
  let v129 : BitVec 32 := Scalar.addi v128 c0_i32_46
  let v240 : Index := Scalar.indexCast v129
  let c0_107 : Index := 0#32
  ![0, v240.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c40_i32 : BitVec 32 := 40#32
  let v2 : BitVec 32 := Scalar.addi c40_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c96_i32 : BitVec 32 := 96#32
  let v2 : BitVec 32 := Scalar.addi c96_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c104_i32 : BitVec 32 := 104#32
  let v2 : BitVec 32 := Scalar.addi c104_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c32_i32 : BitVec 32 := 32#32
  let v2 : BitVec 32 := Scalar.addi c32_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![arg1.toNat, v1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16384x14336 : Shape := ⟨2, ![16384, 14336]⟩
abbrev S16384x128 : Shape := ⟨2, ![16384, 128]⟩
abbrev S1x32 : Shape := ⟨2, ![1, 32]⟩
abbrev S1x2048 : Shape := ⟨2, ![1, 2048]⟩
abbrev S16384x2048 : Shape := ⟨2, ![16384, 2048]⟩
abbrev S2x128x64x8x4x64 : Shape := ⟨6, ![2, 128, 64, 8, 4, 64]⟩
abbrev S16384x1024 : Shape := ⟨2, ![16384, 1024]⟩
abbrev S2x128x64x8x128 : Shape := ⟨5, ![2, 128, 64, 8, 128]⟩
abbrev S16384x32 : Shape := ⟨2, ![16384, 32]⟩
abbrev S2x128x64x8x4 : Shape := ⟨5, ![2, 128, 64, 8, 4]⟩
abbrev S2x128x64x8x4x1 : Shape := ⟨6, ![2, 128, 64, 8, 4, 1]⟩
abbrev S2x128x1x8x4 : Shape := ⟨5, ![2, 128, 1, 8, 4]⟩
abbrev S2x128x8x4x64x128 : Shape := ⟨6, ![2, 128, 8, 4, 64, 128]⟩
abbrev S2x128x8x4 : Shape := ⟨4, ![2, 128, 8, 4]⟩
abbrev S_ : Shape := ⟨0, ![]⟩
abbrev S2x8x4x64x128 : Shape := ⟨5, ![2, 8, 4, 64, 128]⟩
abbrev S128x2x8x4x64x128 : Shape := ⟨6, ![128, 2, 8, 4, 64, 128]⟩
abbrev S128 : Shape := ⟨1, ![128]⟩
abbrev S128x2x8x4 : Shape := ⟨4, ![128, 2, 8, 4]⟩
abbrev S1 : Shape := ⟨1, ![1]⟩
abbrev S1x2x8x4x64x128 : Shape := ⟨6, ![1, 2, 8, 4, 64, 128]⟩
abbrev S1x2x8x4 : Shape := ⟨4, ![1, 2, 8, 4]⟩
abbrev S2x8x4 : Shape := ⟨3, ![2, 8, 4]⟩
abbrev S128x1x1x1x1x1 : Shape := ⟨6, ![128, 1, 1, 1, 1, 1]⟩
abbrev S2x8x4x1x1 : Shape := ⟨5, ![2, 8, 4, 1, 1]⟩
abbrev S2x8192x2048 : Shape := ⟨3, ![2, 8192, 2048]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S64x64x1x1 : Shape := ⟨4, ![64, 64, 1, 1]⟩
abbrev S2x128x64x1x8x4 : Shape := ⟨6, ![2, 128, 64, 1, 8, 4]⟩
abbrev S2x128x1x64x8x4 : Shape := ⟨6, ![2, 128, 1, 64, 8, 4]⟩
abbrev S2x128x64x64x8x4 : Shape := ⟨6, ![2, 128, 64, 64, 8, 4]⟩
abbrev S2x128x8x64x64 : Shape := ⟨5, ![2, 128, 8, 64, 64]⟩
abbrev S2x128x64x64x8 : Shape := ⟨5, ![2, 128, 64, 64, 8]⟩
abbrev S2x128x64x64x8x1 : Shape := ⟨6, ![2, 128, 64, 64, 8, 1]⟩
abbrev S2x128x8x4x64x64 : Shape := ⟨6, ![2, 128, 8, 4, 64, 64]⟩
abbrev S2x8192x32x64 : Shape := ⟨4, ![2, 8192, 32, 64]⟩
abbrev S32 : Shape := ⟨1, ![32]⟩
abbrev S32x1 : Shape := ⟨2, ![32, 1]⟩
abbrev S1x1x32x1 : Shape := ⟨4, ![1, 1, 32, 1]⟩
abbrev S2x8192x8x256 : Shape := ⟨4, ![2, 8192, 8, 256]⟩
abbrev S2x8192x8 : Shape := ⟨3, ![2, 8192, 8]⟩
abbrev S2x8192x8x1 : Shape := ⟨4, ![2, 8192, 8, 1]⟩
abbrev S2048 : Shape := ⟨1, ![2048]⟩
abbrev S1x1x2048 : Shape := ⟨3, ![1, 1, 2048]⟩

abbrev nBuf : Space → Nat
  | .hbm => 161
  | .vmem => 0
  | .smem => 0
  | _ => 0

abbrev hbmTy0_0 (i : Nat) : BufTy := match i % 128 with
  | 0 => ⟨S16384x14336, .f32⟩
  | 1 => ⟨S16384x128, .f32⟩
  | 2 => ⟨S16384x128, .f32⟩
  | 3 => ⟨S1x32, .f32⟩
  | 4 => ⟨S1x2048, .f32⟩
  | 5 => ⟨S16384x2048, .f32⟩
  | 6 => ⟨S2x128x64x8x4x64, .f32⟩
  | 7 => ⟨S16384x1024, .f32⟩
  | 8 => ⟨S2x128x64x8x128, .f32⟩
  | 9 => ⟨S16384x32, .f32⟩
  | 10 => ⟨S2x128x64x8x4, .f32⟩
  | 11 => ⟨S16384x32, .f32⟩
  | 12 => ⟨S2x128x64x8x4, .f32⟩
  | 13 => ⟨S2x128x64x8x4x1, .f32⟩
  | 14 => ⟨S2x128x64x8x4x64, .f32⟩
  | 15 => ⟨S2x128x64x8x4x64, .f32⟩
  | 16 => ⟨S2x128x1x8x4, .f32⟩
  | 17 => ⟨S2x128x64x8x4, .f32⟩
  | 18 => ⟨S2x128x64x8x4, .f32⟩
  | 19 => ⟨S2x128x64x8x4, .f32⟩
  | 20 => ⟨S2x128x64x8x4x1, .f32⟩
  | 21 => ⟨S2x128x64x8x4x64, .f32⟩
  | 22 => ⟨S2x128x64x8x4x64, .f32⟩
  | 23 => ⟨S2x128x8x4x64x128, .f32⟩
  | 24 => ⟨S2x128x1x8x4, .f32⟩
  | 25 => ⟨S2x128x8x4, .f32⟩
  | 26 => ⟨S2x128x8x4, .f32⟩
  | 27 => ⟨S_, .f32⟩
  | 28 => ⟨S2x8x4x64x128, .f32⟩
  | 29 => ⟨S_, .f32⟩
  | 30 => ⟨S128x2x8x4x64x128, .f32⟩
  | 31 => ⟨S128, .i32⟩
  | 32 => ⟨S128x2x8x4x64x128, .f32⟩
  | 33 => ⟨S128x2x8x4, .f32⟩
  | 34 => ⟨S_, .i32⟩
  | 35 => ⟨S128, .i32⟩
  | 36 => ⟨S128x2x8x4x64x128, .f32⟩
  | 37 => ⟨S128x2x8x4, .f32⟩
  | 38 => ⟨S_, .i32⟩
  | 39 => ⟨S2x8x4x64x128, .f32⟩
  | 40 => ⟨S128x2x8x4x64x128, .f32⟩
  | 41 => ⟨S_, .i32⟩
  | 42 => ⟨S_, .i1⟩
  | 43 => ⟨S1, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S1x2x8x4x64x128, .f32⟩
  | 51 => ⟨S2x8x4x64x128, .f32⟩
  | 52 => ⟨S_, .i32⟩
  | 53 => ⟨S_, .i32⟩
  | 54 => ⟨S_, .i32⟩
  | 55 => ⟨S1x2x8x4, .f32⟩
  | 56 => ⟨S2x8x4, .f32⟩
  | 57 => ⟨S128, .i32⟩
  | 58 => ⟨S128, .i32⟩
  | 59 => ⟨S128, .i1⟩
  | 60 => ⟨S128x1x1x1x1x1, .i1⟩
  | 61 => ⟨S2x8x4x1x1, .f32⟩
  | 62 => ⟨S2x8x4x64x128, .f32⟩
  | 63 => ⟨S2x8x4x64x128, .f32⟩
  | 64 => ⟨S2x8x4x64x128, .f32⟩
  | 65 => ⟨S_, .f32⟩
  | 66 => ⟨S_, .f32⟩
  | 67 => ⟨S128x2x8x4x64x128, .i1⟩
  | 68 => ⟨S128x2x8x4x64x128, .f32⟩
  | 69 => ⟨S128x2x8x4x64x128, .f32⟩
  | 70 => ⟨S128x2x8x4x64x128, .f32⟩
  | 71 => ⟨S128x2x8x4x64x128, .f32⟩
  | 72 => ⟨S_, .i32⟩
  | 73 => ⟨S_, .i32⟩
  | 74 => ⟨S16384x2048, .f32⟩
  | 75 => ⟨S2x128x64x8x4x64, .f32⟩
  | 76 => ⟨S16384x1024, .f32⟩
  | 77 => ⟨S2x128x64x8x128, .f32⟩
  | 78 => ⟨S16384x32, .f32⟩
  | 79 => ⟨S2x128x64x8x4, .f32⟩
  | 80 => ⟨S16384x32, .f32⟩
  | 81 => ⟨S2x128x64x8x4, .f32⟩
  | 82 => ⟨S2x128x64x8x4x1, .f32⟩
  | 83 => ⟨S2x128x64x8x4x64, .f32⟩
  | 84 => ⟨S2x128x64x8x4x64, .f32⟩
  | 85 => ⟨S16384x1024, .f32⟩
  | 86 => ⟨S2x128x64x8x128, .f32⟩
  | 87 => ⟨S16384x2048, .f32⟩
  | 88 => ⟨S2x8192x2048, .f32⟩
  | 89 => ⟨S64, .i32⟩
  | 90 => ⟨S64x1, .i32⟩
  | 91 => ⟨S1x64, .i32⟩
  | 92 => ⟨S64x64, .i32⟩
  | 93 => ⟨S64x64, .i32⟩
  | 94 => ⟨S64x64, .i1⟩
  | 95 => ⟨S64x64x1x1, .i1⟩
  | 96 => ⟨S2x128x64x1x8x4, .f32⟩
  | 97 => ⟨S2x128x1x64x8x4, .f32⟩
  | 98 => ⟨S2x128x64x64x8x4, .f32⟩
  | 99 => ⟨S2x128x64x64x8x4, .f32⟩
  | 100 => ⟨S2x128x64x64x8x4, .f32⟩
  | 101 => ⟨S_, .f32⟩
  | 102 => ⟨S_, .f32⟩
  | 103 => ⟨S2x128x64x64x8x4, .i1⟩
  | 104 => ⟨S2x128x64x64x8x4, .f32⟩
  | 105 => ⟨S2x128x64x64x8x4, .f32⟩
  | 106 => ⟨S2x128x64x64x8x4, .f32⟩
  | 107 => ⟨S2x128x8x64x64, .f32⟩
  | 108 => ⟨S2x128x64x64x8, .f32⟩
  | 109 => ⟨S2x128x64x64x8x1, .f32⟩
  | 110 => ⟨S2x128x64x64x8x4, .f32⟩
  | 111 => ⟨S2x128x64x64x8x4, .f32⟩
  | 112 => ⟨S2x128x8x4x64x64, .f32⟩
  | 113 => ⟨S2x128x64x8x4x64, .f32⟩
  | 114 => ⟨S2x128x8x4x64x64, .f32⟩
  | 115 => ⟨S2x128x64x8x4x64, .f32⟩
  | 116 => ⟨S2x128x64x8x4, .f32⟩
  | 117 => ⟨S2x128x64x8x4x1, .f32⟩
  | 118 => ⟨S2x128x64x8x4x64, .f32⟩
  | 119 => ⟨S2x128x64x8x4x64, .f32⟩
  | 120 => ⟨S2x128x64x8x4x64, .f32⟩
  | 121 => ⟨S2x8192x32x64, .f32⟩
  | 122 => ⟨S2x8192x32x64, .f32⟩
  | 123 => ⟨S32, .f32⟩
  | 124 => ⟨S32x1, .f32⟩
  | 125 => ⟨S1x1x32x1, .f32⟩
  | 126 => ⟨S2x8192x32x64, .f32⟩
  | 127 => ⟨S2x8192x32x64, .f32⟩
  | _ => ⟨S16384x14336, .f32⟩

abbrev hbmTy0_1 (i : Nat) : BufTy := match i % 128 with
  | 0 => ⟨S2x8192x32x64, .f32⟩
  | 1 => ⟨S2x8192x2048, .f32⟩
  | 2 => ⟨S2x8192x2048, .f32⟩
  | 3 => ⟨S2x8192x2048, .f32⟩
  | 4 => ⟨S_, .f32⟩
  | 5 => ⟨S2x8192x2048, .f32⟩
  | 6 => ⟨S2x8192x2048, .f32⟩
  | 7 => ⟨S_, .f32⟩
  | 8 => ⟨S2x8192x2048, .f32⟩
  | 9 => ⟨S2x8192x2048, .f32⟩
  | 10 => ⟨S2x8192x2048, .f32⟩
  | 11 => ⟨S2x8192x2048, .f32⟩
  | 12 => ⟨S2x8192x8x256, .f32⟩
  | 13 => ⟨S2x8192x8x256, .f32⟩
  | 14 => ⟨S_, .f32⟩
  | 15 => ⟨S2x8192x8, .f32⟩
  | 16 => ⟨S2x8192x8x1, .f32⟩
  | 17 => ⟨S_, .f32⟩
  | 18 => ⟨S2x8192x8x1, .f32⟩
  | 19 => ⟨S2x8192x8x1, .f32⟩
  | 20 => ⟨S_, .f32⟩
  | 21 => ⟨S2x8192x8x1, .f32⟩
  | 22 => ⟨S2x8192x8x1, .f32⟩
  | 23 => ⟨S2x8192x8x1, .f32⟩
  | 24 => ⟨S2x8192x8x256, .f32⟩
  | 25 => ⟨S2x8192x8x256, .f32⟩
  | 26 => ⟨S2x8192x2048, .f32⟩
  | 27 => ⟨S2048, .f32⟩
  | 28 => ⟨S1x1x2048, .f32⟩
  | 29 => ⟨S2x8192x2048, .f32⟩
  | 30 => ⟨S2x8192x2048, .f32⟩
  | 31 => ⟨S16384x2048, .f32⟩
  | 32 => ⟨S16384x2048, .bf16⟩
  | _ => ⟨S16384x14336, .f32⟩

abbrev hbmTy (i : Nat) : BufTy := match i / 128 with
  | 0 => hbmTy0_0 i
  | 1 => hbmTy0_1 i
  | _ => ⟨S16384x14336, .f32⟩

abbrev bufTy : (tb : Table) → Fin (tcTables nBuf tb) → BufTy
  | .hbm, ⟨i, _⟩ => hbmTy i
  | _, _ => ⟨S16384x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c : Ref sig .tc := ⟨.hbm, 34, rfl⟩
abbrev main_v27_0 : Ref sig .tc := ⟨.hbm, 35, rfl⟩
abbrev main_v27_1 : Ref sig .tc := ⟨.hbm, 36, rfl⟩
abbrev main_v27_2 : Ref sig .tc := ⟨.hbm, 37, rfl⟩
abbrev main_v27_3 : Ref sig .tc := ⟨.hbm, 38, rfl⟩
abbrev main_v27_4 : Ref sig .tc := ⟨.hbm, 39, rfl⟩
abbrev main_v27_5 : Ref sig .tc := ⟨.hbm, 40, rfl⟩
abbrev main_while0c_c_10 : Ref sig .tc := ⟨.hbm, 41, rfl⟩
abbrev main_while0c_v100 : Ref sig .tc := ⟨.hbm, 42, rfl⟩
abbrev main_while0b_call0_v0 : Ref sig .tc := ⟨.hbm, 43, rfl⟩
abbrev main_while0b_v100 : Ref sig .tc := ⟨.hbm, 44, rfl⟩
abbrev main_while0b_call1_c : Ref sig .tc := ⟨.hbm, 45, rfl⟩
abbrev main_while0b_call1_c_0 : Ref sig .tc := ⟨.hbm, 46, rfl⟩
abbrev main_while0b_call1_c_1 : Ref sig .tc := ⟨.hbm, 47, rfl⟩
abbrev main_while0b_call1_c_2 : Ref sig .tc := ⟨.hbm, 48, rfl⟩
abbrev main_while0b_call1_c_3 : Ref sig .tc := ⟨.hbm, 49, rfl⟩
abbrev main_while0b_call1_v0 : Ref sig .tc := ⟨.hbm, 50, rfl⟩
abbrev main_while0b_v101 : Ref sig .tc := ⟨.hbm, 51, rfl⟩
abbrev main_while0b_call2_c : Ref sig .tc := ⟨.hbm, 52, rfl⟩
abbrev main_while0b_call2_c_0 : Ref sig .tc := ⟨.hbm, 53, rfl⟩
abbrev main_while0b_call2_c_1 : Ref sig .tc := ⟨.hbm, 54, rfl⟩
abbrev main_while0b_call2_v0 : Ref sig .tc := ⟨.hbm, 55, rfl⟩
abbrev main_while0b_v102 : Ref sig .tc := ⟨.hbm, 56, rfl⟩
abbrev main_while0b_v103 : Ref sig .tc := ⟨.hbm, 57, rfl⟩
abbrev main_while0b_v104 : Ref sig .tc := ⟨.hbm, 58, rfl⟩
abbrev main_while0b_v105 : Ref sig .tc := ⟨.hbm, 59, rfl⟩
abbrev main_while0b_v106 : Ref sig .tc := ⟨.hbm, 60, rfl⟩
abbrev main_while0b_v107 : Ref sig .tc := ⟨.hbm, 61, rfl⟩
abbrev main_while0b_v108 : Ref sig .tc := ⟨.hbm, 62, rfl⟩
abbrev main_while0b_v109 : Ref sig .tc := ⟨.hbm, 63, rfl⟩
abbrev main_while0b_v110 : Ref sig .tc := ⟨.hbm, 64, rfl⟩
abbrev main_while0b_cst_10 : Ref sig .tc := ⟨.hbm, 65, rfl⟩
abbrev main_while0b_call3_v0 : Ref sig .tc := ⟨.hbm, 66, rfl⟩
abbrev main_while0b_call3_v1 : Ref sig .tc := ⟨.hbm, 67, rfl⟩
abbrev main_while0b_call3_v2 : Ref sig .tc := ⟨.hbm, 68, rfl⟩
abbrev main_while0b_call3_v3 : Ref sig .tc := ⟨.hbm, 69, rfl⟩
abbrev main_while0b_v111 : Ref sig .tc := ⟨.hbm, 70, rfl⟩
abbrev main_while0b_v112 : Ref sig .tc := ⟨.hbm, 71, rfl⟩
abbrev main_while0b_c_11 : Ref sig .tc := ⟨.hbm, 72, rfl⟩
abbrev main_while0b_v113 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_cst_1 : Ref sig .tc := ⟨.hbm, 101, rfl⟩
abbrev main_call4_v0 : Ref sig .tc := ⟨.hbm, 102, rfl⟩
abbrev main_call4_v1 : Ref sig .tc := ⟨.hbm, 103, rfl⟩
abbrev main_call4_v2 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_call5_v0 : Ref sig .tc := ⟨.hbm, 130, rfl⟩
abbrev main_call5_v1 : Ref sig .tc := ⟨.hbm, 131, rfl⟩
abbrev main_call5_cst : Ref sig .tc := ⟨.hbm, 132, rfl⟩
abbrev main_call5_v2 : Ref sig .tc := ⟨.hbm, 133, rfl⟩
abbrev main_call5_v3 : Ref sig .tc := ⟨.hbm, 134, rfl⟩
abbrev main_call5_cst_0 : Ref sig .tc := ⟨.hbm, 135, rfl⟩
abbrev main_call5_v4 : Ref sig .tc := ⟨.hbm, 136, rfl⟩
abbrev main_call5_v5 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_cst_2 : Ref sig .tc := ⟨.hbm, 142, rfl⟩
abbrev main_v84 : Ref sig .tc := ⟨.hbm, 143, rfl⟩
abbrev main_v85 : Ref sig .tc := ⟨.hbm, 144, rfl⟩
abbrev main_cst_3 : Ref sig .tc := ⟨.hbm, 145, rfl⟩
abbrev main_v86 : Ref sig .tc := ⟨.hbm, 146, rfl⟩
abbrev main_v87 : Ref sig .tc := ⟨.hbm, 147, rfl⟩
abbrev main_cst_4 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S16384x4096 : Shape := ⟨2, ![16384, 4096]⟩
abbrev S1x4096 : Shape := ⟨2, ![1, 4096]⟩
abbrev S4096x11264 : Shape := ⟨2, ![4096, 11264]⟩
abbrev S3x11264 : Shape := ⟨2, ![3, 11264]⟩
abbrev S1x11264 : Shape := ⟨2, ![1, 11264]⟩
abbrev S4096 : Shape := ⟨1, ![4096]⟩
abbrev S16384x11264 : Shape := ⟨2, ![16384, 11264]⟩
abbrev S512x4096 : Shape := ⟨2, ![512, 4096]⟩
abbrev S16x4096 : Shape := ⟨2, ![16, 4096]⟩
abbrev S4096x512 : Shape := ⟨2, ![4096, 512]⟩
abbrev S3x512 : Shape := ⟨2, ![3, 512]⟩
abbrev S1x512 : Shape := ⟨2, ![1, 512]⟩
abbrev S512x512 : Shape := ⟨2, ![512, 512]⟩
abbrev S528x4096 : Shape := ⟨2, ![528, 4096]⟩
abbrev S16 : Shape := ⟨1, ![16]⟩
abbrev S16x1 : Shape := ⟨2, ![16, 1]⟩
abbrev S512 : Shape := ⟨1, ![512]⟩
abbrev S512x1 : Shape := ⟨2, ![512, 1]⟩
abbrev S528x512 : Shape := ⟨2, ![528, 512]⟩

abbrev nBuf : Space → Nat
  | .hbm => 9
  | .vmem => 16
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S4096x11264, .bf16⟩
  | .hbm, ⟨3, _⟩ => ⟨S4096x11264, .bf16⟩
  | .hbm, ⟨4, _⟩ => ⟨S3x11264, .f32⟩
  | .hbm, ⟨5, _⟩ => ⟨S1x11264, .f32⟩
  | .hbm, ⟨6, _⟩ => ⟨S4096, .f32⟩
  | .hbm, ⟨7, _⟩ => ⟨S1x4096, .f32⟩
  | .hbm, ⟨8, _⟩ => ⟨S16384x11264, .bf16⟩
  | .local _ .vmem, ⟨0, _⟩ => ⟨S512x4096, .f32⟩
  | .local _ .vmem, ⟨1, _⟩ => ⟨S512x4096, .f32⟩
  | .local _ .vmem, ⟨2, _⟩ => ⟨S16x4096, .f32⟩
  | .local _ .vmem, ⟨3, _⟩ => ⟨S16x4096, .f32⟩
  | .local _ .vmem, ⟨4, _⟩ => ⟨S1x4096, .f32⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S4096x512, .bf16⟩
  | .local _ .vmem, ⟨9, _⟩ => ⟨S3x512, .f32⟩
  | .local _ .vmem, ⟨10, _⟩ => ⟨S3x512, .f32⟩
  | .local _ .vmem, ⟨11, _⟩ => ⟨S1x512, .f32⟩
  | .local _ .vmem, ⟨12, _⟩ => ⟨S1x512, .f32⟩
  | .local _ .vmem, ⟨13, _⟩ => ⟨S512x512, .bf16⟩
  | .local _ .vmem, ⟨14, _⟩ => ⟨S512x512, .bf16⟩
  | .local _ .vmem, ⟨15, _⟩ => ⟨S528x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S16384x4096 : Shape := ⟨2, ![16384, 4096]⟩
abbrev S1x4096 : Shape := ⟨2, ![1, 4096]⟩
abbrev S4096x11264 : Shape := ⟨2, ![4096, 11264]⟩
abbrev S3x11264 : Shape := ⟨2, ![3, 11264]⟩
abbrev S1x11264 : Shape := ⟨2, ![1, 11264]⟩
abbrev S2x8192x4096 : Shape := ⟨3, ![2, 8192, 4096]⟩
abbrev S_ : Shape := ⟨0, ![]⟩
abbrev S2x8192 : Shape := ⟨2, ![2, 8192]⟩
abbrev S2x8192x1 : Shape := ⟨3, ![2, 8192, 1]⟩
abbrev S4096 : Shape := ⟨1, ![4096]⟩
abbrev S1x1x4096 : Shape := ⟨3, ![1, 1, 4096]⟩
abbrev S2x8192x11264 : Shape := ⟨3, ![2, 8192, 11264]⟩
abbrev S2x8194x11264 : Shape := ⟨3, ![2, 8194, 11264]⟩
abbrev S11264 : Shape := ⟨1, ![11264]⟩
abbrev S1x1x11264 : Shape := ⟨3, ![1, 1, 11264]⟩
abbrev S16384x11264 : Shape := ⟨2, ![16384, 11264]⟩

abbrev nBuf : Space → Nat
  | .hbm => 67
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S4096x11264, .bf16⟩
  | .hbm, ⟨3, _⟩ => ⟨S4096x11264, .bf16⟩
  | .hbm, ⟨4, _⟩ => ⟨S3x11264, .f32⟩
  | .hbm, ⟨5, _⟩ => ⟨S1x11264, .f32⟩
  | .hbm, ⟨6, _⟩ => ⟨S2x8192x4096, .f32⟩
  | .hbm, ⟨7, _⟩ => ⟨S2x8192x4096, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x4096, .f32⟩
  | .hbm, ⟨19, _⟩ => ⟨S2x8192x4096, .f32⟩
  | .hbm, ⟨20, _⟩ => ⟨S4096, .f32⟩
  | .hbm, ⟨21, _⟩ => ⟨S1x1x4096, .f32⟩
  | .hbm, ⟨22, _⟩ => ⟨S2x8192x4096, .f32⟩
  | .hbm, ⟨23, _⟩ => ⟨S2x8192x4096, .f32⟩
  | .hbm, ⟨24, _⟩ => ⟨S4096x11264, .f32⟩
  | .hbm, ⟨25, _⟩ => ⟨S2x8192x11264, .f32⟩
  | .hbm, ⟨26, _⟩ => ⟨S_, .i32⟩
  | .hbm, ⟨27, _⟩ => ⟨S_, .f32⟩
  | .hbm, ⟨28, _⟩ => ⟨S2x8194x11264, .f32⟩
  | .hbm, ⟨29, _⟩ => ⟨S1x11264, .f32⟩
  | .hbm, ⟨30, _⟩ => ⟨S11264, .f32⟩
  | .hbm, ⟨31, _⟩ => ⟨S2x8192x11264, .f32⟩
  | .hbm, ⟨32, _⟩ => ⟨S1x1x11264, .f32⟩
  | .hbm, ⟨33, _⟩ => ⟨S2x8192x11264, .f32⟩
  | .hbm, ⟨34, _⟩ => ⟨S2x8192x11264, .f32⟩
  | .hbm, ⟨35, _⟩ => ⟨S1x11264, .f32⟩
  | .hbm, ⟨36, _⟩ => ⟨S11264, .f32⟩
  | .hbm, ⟨37, _⟩ => ⟨S2x8192x11264, .f32⟩
  | .hbm, ⟨38, _⟩ => ⟨S1x1x11264, .f32⟩
  | .hbm, ⟨39, _⟩ => ⟨S2x8192x11264, .f32⟩
  | .hbm, ⟨40, _⟩ => ⟨S2x8192x11264, .f32⟩
  | .hbm, ⟨41, _⟩ => ⟨S2x8192x11264, .f32⟩
  | .hbm, ⟨42, _⟩ => ⟨S1x11264, .f32⟩
  | .hbm, ⟨43, _⟩ => ⟨S11264, .f32⟩
  | .hbm, ⟨44, _⟩ => ⟨S2x8192x11264, .f32⟩
  | .hbm, ⟨45, _⟩ => ⟨S1x1x11264, .f32⟩
  | .hbm, ⟨46, _⟩ => ⟨S2x8192x11264, .f32⟩
  | .hbm, ⟨47, _⟩ => ⟨S2x8192x11264, .f32⟩
  | .hbm, ⟨48, _⟩ => ⟨S2x8192x11264, .f32⟩
  | .hbm, ⟨49, _⟩ => ⟨S11264, .f32⟩
  | .hbm, ⟨50, _⟩ => ⟨S1x1x11264, .f32⟩
  | .hbm, ⟨51, _⟩ => ⟨S2x8192x11264, .f32⟩
  | .hbm, ⟨52, _⟩ => ⟨S2x8192x11264, .f32⟩
  | .hbm, ⟨53, _⟩ => ⟨S2x8192x11264, .f32⟩
  | .hbm, ⟨54, _⟩ => ⟨S2x8192x11264, .f32⟩
  | .hbm, ⟨55, _⟩ => ⟨S_, .f32⟩
  | .hbm, ⟨56, _⟩ => ⟨S2x8192x11264, .f32⟩
  | .hbm, ⟨57, _⟩ => ⟨S2x8192x11264, .f32⟩
  | .hbm, ⟨58, _⟩ => ⟨S_, .f32⟩
  | .hbm, ⟨59, _⟩ => ⟨S2x8192x11264, .f32⟩
  | .hbm, ⟨60, _⟩ => ⟨S2x8192x11264, .f32⟩
  | .hbm, ⟨61, _⟩ => ⟨S2x8192x11264, .f32⟩
  | .hbm, ⟨62, _⟩ => ⟨S4096x11264, .f32⟩
  | .hbm, ⟨63, _⟩ => ⟨S2x8192x11264, .f32⟩
  | .hbm, ⟨64, _⟩ => ⟨S2x8192x11264, .f32⟩
  | .hbm, ⟨65, _⟩ => ⟨S16384x11264, .f32⟩
  | .hbm, ⟨66, _⟩ => ⟨S16384x11264, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== Kernel3.lean ====
abbrev S16384x11264 : Shape := ⟨2, ![16384, 11264]⟩
abbrev S11264x4096 : Shape := ⟨2, ![11264, 4096]⟩
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512x1024 : Shape := ⟨2, ![512, 1024]⟩
abbrev S1024x4096 : Shape := ⟨2, ![1024, 4096]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x11264, .bf16⟩
  | .hbm, ⟨1, _⟩ => ⟨S11264x4096, .bf16⟩
  | .hbm, ⟨2, _⟩ => ⟨S16384x4096, .f32⟩
  | .hbm, ⟨3, _⟩ => ⟨S4096, .f32⟩
  | .hbm, ⟨4, _⟩ => ⟨S1x4096, .f32⟩
  | .hbm, ⟨5, _⟩ => ⟨S16384x4096, .f32⟩
  | .local _ .vmem, ⟨0, _⟩ => ⟨S512x4096, .f32⟩
  | .local _ .vmem, ⟨1, _⟩ => ⟨S512x1024, .bf16⟩
  | .local _ .vmem, ⟨2, _⟩ => ⟨S512x1024, .bf16⟩
  | .local _ .vmem, ⟨3, _⟩ => ⟨S1024x4096, .bf16⟩
  | .local _ .vmem, ⟨4, _⟩ => ⟨S1024x4096, .bf16⟩
  | .local _ .vmem, ⟨5, _⟩ => ⟨S1x4096, .f32⟩
  | .local _ .vmem, ⟨6, _⟩ => ⟨S512x4096, .f32⟩
  | .local _ .vmem, ⟨7, _⟩ => ⟨S512x4096, .f32⟩
  | _, _ => ⟨S16384x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S16384x11264 : Shape := ⟨2, ![16384, 11264]⟩
abbrev S11264x4096 : Shape := ⟨2, ![11264, 4096]⟩
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S16384x11264, .bf16⟩
  | .hbm, ⟨1, _⟩ => ⟨S11264x4096, .bf16⟩
  | .hbm, ⟨2, _⟩ => ⟨S16384x4096, .f32⟩
  | .hbm, ⟨3, _⟩ => ⟨S4096, .f32⟩
  | .hbm, ⟨4, _⟩ => ⟨S16384x11264, .f32⟩
  | .hbm, ⟨5, _⟩ => ⟨S11264x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x4096, .f32⟩
  | .hbm, ⟨20, _⟩ => ⟨S16384x4096, .f32⟩
  | .hbm, ⟨21, _⟩ => ⟨S1x4096, .f32⟩
  | .hbm, ⟨22, _⟩ => ⟨S16384x4096, .f32⟩
  | .hbm, ⟨23, _⟩ => ⟨S16384x4096, .f32⟩
  | _, _ => ⟨S16384x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel4.lean ====
abbrev S16384x4096 : Shape := ⟨2, ![16384, 4096]⟩
abbrev S16384x2048 : Shape := ⟨2, ![16384, 2048]⟩
abbrev S1x4096x4096 : Shape := ⟨3, ![1, 4096, 4096]⟩
abbrev S4096x4096 : Shape := ⟨2, ![4096, 4096]⟩
abbrev S512x1024 : Shape := ⟨2, ![512, 1024]⟩
abbrev S512x2048 : Shape := ⟨2, ![512, 2048]⟩
abbrev S2048x1024 : Shape := ⟨2, ![2048, 1024]⟩

abbrev nBuf : Space → Nat
  | .hbm => 7
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S16384x2048, .bf16⟩
  | .hbm, ⟨2, _⟩ => ⟨S16384x2048, .bf16⟩
  | .hbm, ⟨3, _⟩ => ⟨S1x4096x4096, .f32⟩
  | .hbm, ⟨4, _⟩ => ⟨S4096x4096, .f32⟩
  | .hbm, ⟨5, _⟩ => ⟨S4096x4096, .bf16⟩
  | .hbm, ⟨6, _⟩ => ⟨S16384x4096, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S512x1024, .f32⟩
  | .local _ .vmem, ⟨11, _⟩ => ⟨S512x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S16384x4096 : Shape := ⟨2, ![16384, 4096]⟩
abbrev S16384x2048 : Shape := ⟨2, ![16384, 2048]⟩
abbrev S1x4096x4096 : Shape := ⟨3, ![1, 4096, 4096]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x2048, .bf16⟩
  | .hbm, ⟨2, _⟩ => ⟨S16384x2048, .bf16⟩
  | .hbm, ⟨3, _⟩ => ⟨S1x4096x4096, .f32⟩
  | .hbm, ⟨4, _⟩ => ⟨S16384x2048, .f32⟩
  | .hbm, ⟨5, _⟩ => ⟨S16384x2048, .f32⟩
  | .hbm, ⟨6, _⟩ => ⟨S16384x4096, .f32⟩
  | .hbm, ⟨7, _⟩ => ⟨S4096x4096, .f32⟩
  | .hbm, ⟨8, _⟩ => ⟨S16384x4096, .f32⟩
  | .hbm, ⟨9, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel5.lean ====
abbrev S16384x4096 : Shape := ⟨2, ![16384, 4096]⟩
abbrev S1x4096 : Shape := ⟨2, ![1, 4096]⟩
abbrev S1x4096x14400 : Shape := ⟨3, ![1, 4096, 14400]⟩
abbrev S1x4x6144 : Shape := ⟨3, ![1, 4, 6144]⟩
abbrev S1x4x4096 : Shape := ⟨3, ![1, 4, 4096]⟩
abbrev S1x14400x4096 : Shape := ⟨3, ![1, 14400, 4096]⟩
abbrev S14400x4096 : Shape := ⟨2, ![14400, 4096]⟩
abbrev S32x4096 : Shape := ⟨2, ![32, 4096]⟩
abbrev S64x4096 : Shape := ⟨2, ![64, 4096]⟩
abbrev S_ : Shape := ⟨0, ![]⟩
abbrev S128x4096 : Shape := ⟨2, ![128, 4096]⟩
abbrev S4x4096 : Shape := ⟨2, ![4, 4096]⟩
abbrev S4x6144 : Shape := ⟨2, ![4, 6144]⟩
abbrev S4x14336 : Shape := ⟨2, ![4, 14336]⟩
abbrev S10240 : Shape := ⟨1, ![10240]⟩
abbrev S4096 : Shape := ⟨1, ![4096]⟩
abbrev S14336 : Shape := ⟨1, ![14336]⟩
abbrev S1x14336 : Shape := ⟨2, ![1, 14336]⟩
abbrev S16384x14336 : Shape := ⟨2, ![16384, 14336]⟩
abbrev S16384x128 : Shape := ⟨2, ![16384, 128]⟩
abbrev S512x4096 : Shape := ⟨2, ![512, 4096]⟩
abbrev S16x4096 : Shape := ⟨2, ![16, 4096]⟩
abbrev S1024x4096 : Shape := ⟨2, ![1024, 4096]⟩
abbrev S4x1024 : Shape := ⟨2, ![4, 1024]⟩
abbrev S1x1024 : Shape := ⟨2, ![1, 1024]⟩
abbrev S512x1024 : Shape := ⟨2, ![512, 1024]⟩
abbrev S512x128 : Shape := ⟨2, ![512, 128]⟩
abbrev S528x4096 : Shape := ⟨2, ![528, 4096]⟩
abbrev S16 : Shape := ⟨1, ![16]⟩
abbrev S16x1 : Shape := ⟨2, ![16, 1]⟩
abbrev S512 : Shape := ⟨1, ![512]⟩
abbrev S512x1 : Shape := ⟨2, ![512, 1]⟩
abbrev S528x1024 : Shape := ⟨2, ![528, 1024]⟩
abbrev S528x128 : Shape := ⟨2, ![528, 128]⟩
abbrev S4x128 : Shape := ⟨2, ![4, 128]⟩
abbrev S1x128 : Shape := ⟨2, ![1, 128]⟩

abbrev nBuf : Space → Nat
  | .hbm => 29
  | .vmem => 17
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S1x4096x14400, .f32⟩
  | .hbm, ⟨3, _⟩ => ⟨S1x4x6144, .f32⟩
  | .hbm, ⟨4, _⟩ => ⟨S1x4x4096, .f32⟩
  | .hbm, ⟨5, _⟩ => ⟨S1x4096, .f32⟩
  | .hbm, ⟨6, _⟩ => ⟨S1x14400x4096, .f32⟩
  | .hbm, ⟨7, _⟩ => ⟨S14400x4096, .f32⟩
  | .hbm, ⟨8, _⟩ => ⟨S14400x4096, .bf16⟩
  | .hbm, ⟨9, _⟩ => ⟨S32x4096, .bf16⟩
  | .hbm, ⟨10, _⟩ => ⟨S32x4096, .bf16⟩
  | .hbm, ⟨11, _⟩ => ⟨S64x4096, .bf16⟩
  | .hbm, ⟨12, _⟩ => ⟨S_, .i32⟩
  | .hbm, ⟨13, _⟩ => ⟨S_, .bf16⟩
  | .hbm, ⟨14, _⟩ => ⟨S128x4096, .bf16⟩
  | .hbm, ⟨15, _⟩ => ⟨S_, .f32⟩
  | .hbm, ⟨16, _⟩ => ⟨S4x4096, .f32⟩
  | .hbm, ⟨17, _⟩ => ⟨S4x6144, .f32⟩
  | .hbm, ⟨18, _⟩ => ⟨S4x4096, .f32⟩
  | .hbm, ⟨19, _⟩ => ⟨S4x14336, .f32⟩
  | .hbm, ⟨20, _⟩ => ⟨S_, .f32⟩
  | .hbm, ⟨21, _⟩ => ⟨S10240, .f32⟩
  | .hbm, ⟨22, _⟩ => ⟨S4096, .f32⟩
  | .hbm, ⟨23, _⟩ => ⟨S14336, .f32⟩
  | .hbm, ⟨24, _⟩ => ⟨S1x14336, .f32⟩
  | .hbm, ⟨25, _⟩ => ⟨S4096, .f32⟩
  | .hbm, ⟨26, _⟩ => ⟨S1x4096, .f32⟩
  | .hbm, ⟨27, _⟩ => ⟨S16384x14336, .f32⟩
  | .hbm, ⟨28, _⟩ => ⟨S16384x128, .f32⟩
  | .local _ .vmem, ⟨0, _⟩ => ⟨S512x4096, .f32⟩
  | .local _ .vmem, ⟨1, _⟩ => ⟨S512x4096, .f32⟩
  | .local _ .vmem, ⟨2, _⟩ => ⟨S16x4096, .f32⟩
  | .local _ .vmem, ⟨3, _⟩ => ⟨S16x4096, .f32⟩
  | .local _ .vmem, ⟨4, _⟩ => ⟨S1x4096, .f32⟩
  | .local _ .vmem, ⟨5, _⟩ => ⟨S1024x4096, .bf16⟩
  | .local _ .vmem, ⟨6, _⟩ => ⟨S1024x4096, .bf16⟩
  | .local _ .vmem, ⟨7, _⟩ => ⟨S128x4096, .bf16⟩
  | .local _ .vmem, ⟨8, _⟩ => ⟨S4x1024, .f32⟩
  | .local _ .vmem, ⟨9, _⟩ => ⟨S4x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x128, .f32⟩
  | .local _ .vmem, ⟨15, _⟩ => ⟨S512x128, .f32⟩
  | .local _ .vmem, ⟨16, _⟩ => ⟨S528x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 14], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  let c8_i32 : BitVec 32 := 8#32
  let v1 : BitVec 1 := Scalar.cmpi .sge arg1 c8_i32
  let c32_i32 : BitVec 32 := 32#32
  let c0_i32 : BitVec 32 := 0#32
  let v2 : BitVec 32 := Scalar.select v1 c32_i32 c0_i32
  let v3 : BitVec 32 := Scalar.addi v0 v2
  v3
def k0_cond2 (i : grid0.Coords) : BitVec 1 :=
  let arg1 : BitVec 32 := BitVec.ofNat 32 (i 1).val
  let c6_i32 : BitVec 32 := 6#32
  let v3 : BitVec 1 := Scalar.cmpi .slt arg1 c6_i32
  let c10_i32 : BitVec 32 := 10#32
  let v4 : BitVec 1 := Scalar.cmpi .sge arg1 c10_i32
  let v5 : BitVec 1 := Scalar.ori v3 v4
  let v_true : BitVec 1 := 1#1
  let v6 : BitVec 1 := Scalar.xori v5 v_true
  let v7 : BitVec 32 := Scalar.extui v6
  let c0_i32_1 : BitVec 32 := 0#32
  let v8 : BitVec 1 := Scalar.cmpi .ne v7 c0_i32_1
  v8

def k0_cond3 (i : grid0.Coords) : BitVec 1 :=
  let arg1 : BitVec 32 := BitVec.ofNat 32 (i 1).val
  let c6_i32 : BitVec 32 := 6#32
  let v3 : BitVec 1 := Scalar.cmpi .slt arg1 c6_i32
  let c10_i32 : BitVec 32 := 10#32
  let v4 : BitVec 1 := Scalar.cmpi .sge arg1 c10_i32
  let v5 : BitVec 1 := Scalar.ori v3 v4
  let v9 : BitVec 32 := Scalar.extui v5
  let c0_i32_2 : BitVec 32 := 0#32
  let v10 : BitVec 1 := Scalar.cmpi .ne v9 c0_i32_2
  v10

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c8_i32 : BitVec 32 := 8#32
  let v1 : BitVec 1 := Scalar.cmpi .sge arg1 c8_i32
  let c32_i32 : BitVec 32 := 32#32
  let c0_i32 : BitVec 32 := 0#32
  let v2 : BitVec 32 := Scalar.select v1 c32_i32 c0_i32
  let v3 : BitVec 32 := Scalar.addi v0 v2
  let v4 : BitVec 32 := v3
  let c0_i32_0 : BitVec 32 := 0#32
  let c0_i32_1 : BitVec 32 := 0#32
  ![v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S128x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference5Ideal.lean ====
abbrev S16384x4096 : Shape := ⟨2, ![16384, 4096]⟩
abbrev S1x4096 : Shape := ⟨2, ![1, 4096]⟩
abbrev S1x4096x14400 : Shape := ⟨3, ![1, 4096, 14400]⟩
abbrev S1x4x6144 : Shape := ⟨3, ![1, 4, 6144]⟩
abbrev S1x4x4096 : Shape := ⟨3, ![1, 4, 4096]⟩
abbrev S2x8192x4096 : Shape := ⟨3, ![2, 8192, 4096]⟩
abbrev S_ : Shape := ⟨0, ![]⟩
abbrev S2x8192 : Shape := ⟨2, ![2, 8192]⟩
abbrev S2x8192x1 : Shape := ⟨3, ![2, 8192, 1]⟩
abbrev S4096 : Shape := ⟨1, ![4096]⟩
abbrev S1x1x4096 : Shape := ⟨3, ![1, 1, 4096]⟩
abbrev S4096x14400 : Shape := ⟨2, ![4096, 14400]⟩
abbrev S2x8192x14400 : Shape := ⟨3, ![2, 8192, 14400]⟩
abbrev S2x8192x6144 : Shape := ⟨3, ![2, 8192, 6144]⟩
abbrev S2x8192x2048 : Shape := ⟨3, ![2, 8192, 2048]⟩
abbrev S2x8195x6144 : Shape := ⟨3, ![2, 8195, 6144]⟩
abbrev S4x6144 : Shape := ⟨2, ![4, 6144]⟩
abbrev S1x6144 : Shape := ⟨2, ![1, 6144]⟩
abbrev S6144 : Shape := ⟨1, ![6144]⟩
abbrev S1x1x6144 : Shape := ⟨3, ![1, 1, 6144]⟩
abbrev S2x8192x2x16x128 : Shape := ⟨5, ![2, 8192, 2, 16, 128]⟩
abbrev S2x8192x2x16 : Shape := ⟨4, ![2, 8192, 2, 16]⟩
abbrev S2x8192x2x16x1 : Shape := ⟨5, ![2, 8192, 2, 16, 1]⟩
abbrev S2x8192x1x16x128 : Shape := ⟨5, ![2, 8192, 1, 16, 128]⟩
abbrev S2x8192x16x128 : Shape := ⟨4, ![2, 8192, 16, 128]⟩
abbrev S2x8195x4096 : Shape := ⟨3, ![2, 8195, 4096]⟩
abbrev S4x4096 : Shape := ⟨2, ![4, 4096]⟩
abbrev S2x8192x14336 : Shape := ⟨3, ![2, 8192, 14336]⟩
abbrev S2x8192x32 : Shape := ⟨3, ![2, 8192, 32]⟩
abbrev S2x8192x64 : Shape := ⟨3, ![2, 8192, 64]⟩
abbrev S2x8192x128 : Shape := ⟨3, ![2, 8192, 128]⟩
abbrev S16384x14336 : Shape := ⟨2, ![16384, 14336]⟩
abbrev S16384x128 : Shape := ⟨2, ![16384, 128]⟩

abbrev nBuf : Space → Nat
  | .hbm => 144
  | .vmem => 0
  | .smem => 0
  | _ => 0

abbrev hbmTy0_0 (i : Nat) : BufTy := match i % 128 with
  | 0 => ⟨S16384x4096, .f32⟩
  | 1 => ⟨S1x4096, .f32⟩
  | 2 => ⟨S1x4096x14400, .f32⟩
  | 3 => ⟨S1x4x6144, .f32⟩
  | 4 => ⟨S1x4x4096, .f32⟩
  | 5 => ⟨S1x4096, .f32⟩
  | 6 => ⟨S2x8192x4096, .f32⟩
  | 7 => ⟨S2x8192x4096, .f32⟩
  | 8 => ⟨S_, .f32⟩
  | 9 => ⟨S2x8192, .f32⟩
  | 10 => ⟨S2x8192x1, .f32⟩
  | 11 => ⟨S_, .f32⟩
  | 12 => ⟨S2x8192x1, .f32⟩
  | 13 => ⟨S2x8192x1, .f32⟩
  | 14 => ⟨S_, .f32⟩
  | 15 => ⟨S2x8192x1, .f32⟩
  | 16 => ⟨S2x8192x1, .f32⟩
  | 17 => ⟨S2x8192x1, .f32⟩
  | 18 => ⟨S2x8192x4096, .f32⟩
  | 19 => ⟨S2x8192x4096, .f32⟩
  | 20 => ⟨S4096, .f32⟩
  | 21 => ⟨S1x1x4096, .f32⟩
  | 22 => ⟨S2x8192x4096, .f32⟩
  | 23 => ⟨S2x8192x4096, .f32⟩
  | 24 => ⟨S4096x14400, .f32⟩
  | 25 => ⟨S2x8192x14400, .f32⟩
  | 26 => ⟨S2x8192x6144, .f32⟩
  | 27 => ⟨S2x8192x2048, .f32⟩
  | 28 => ⟨S2x8192x2048, .f32⟩
  | 29 => ⟨S2x8192x4096, .f32⟩
  | 30 => ⟨S_, .i32⟩
  | 31 => ⟨S_, .f32⟩
  | 32 => ⟨S2x8195x6144, .f32⟩
  | 33 => ⟨S4x6144, .f32⟩
  | 34 => ⟨S1x6144, .f32⟩
  | 35 => ⟨S6144, .f32⟩
  | 36 => ⟨S2x8192x6144, .f32⟩
  | 37 => ⟨S1x1x6144, .f32⟩
  | 38 => ⟨S2x8192x6144, .f32⟩
  | 39 => ⟨S2x8192x6144, .f32⟩
  | 40 => ⟨S1x6144, .f32⟩
  | 41 => ⟨S6144, .f32⟩
  | 42 => ⟨S2x8192x6144, .f32⟩
  | 43 => ⟨S1x1x6144, .f32⟩
  | 44 => ⟨S2x8192x6144, .f32⟩
  | 45 => ⟨S2x8192x6144, .f32⟩
  | 46 => ⟨S2x8192x6144, .f32⟩
  | 47 => ⟨S1x6144, .f32⟩
  | 48 => ⟨S6144, .f32⟩
  | 49 => ⟨S2x8192x6144, .f32⟩
  | 50 => ⟨S1x1x6144, .f32⟩
  | 51 => ⟨S2x8192x6144, .f32⟩
  | 52 => ⟨S2x8192x6144, .f32⟩
  | 53 => ⟨S2x8192x6144, .f32⟩
  | 54 => ⟨S1x6144, .f32⟩
  | 55 => ⟨S6144, .f32⟩
  | 56 => ⟨S2x8192x6144, .f32⟩
  | 57 => ⟨S1x1x6144, .f32⟩
  | 58 => ⟨S2x8192x6144, .f32⟩
  | 59 => ⟨S2x8192x6144, .f32⟩
  | 60 => ⟨S2x8192x6144, .f32⟩
  | 61 => ⟨S2x8192x6144, .f32⟩
  | 62 => ⟨S2x8192x6144, .f32⟩
  | 63 => ⟨S_, .f32⟩
  | 64 => ⟨S2x8192x6144, .f32⟩
  | 65 => ⟨S2x8192x6144, .f32⟩
  | 66 => ⟨S_, .f32⟩
  | 67 => ⟨S2x8192x6144, .f32⟩
  | 68 => ⟨S2x8192x6144, .f32⟩
  | 69 => ⟨S2x8192x6144, .f32⟩
  | 70 => ⟨S2x8192x4096, .f32⟩
  | 71 => ⟨S2x8192x2x16x128, .f32⟩
  | 72 => ⟨S2x8192x2x16x128, .f32⟩
  | 73 => ⟨S_, .f32⟩
  | 74 => ⟨S2x8192x2x16, .f32⟩
  | 75 => ⟨S2x8192x2x16x1, .f32⟩
  | 76 => ⟨S_, .f32⟩
  | 77 => ⟨S2x8192x2x16x1, .f32⟩
  | 78 => ⟨S2x8192x2x16x1, .f32⟩
  | 79 => ⟨S2x8192x2x16x1, .f32⟩
  | 80 => ⟨S2x8192x2x16x128, .f32⟩
  | 81 => ⟨S2x8192x2x16x128, .f32⟩
  | 82 => ⟨S2x8192x1x16x128, .f32⟩
  | 83 => ⟨S2x8192x16x128, .f32⟩
  | 84 => ⟨S_, .f32⟩
  | 85 => ⟨S2x8192x16x128, .f32⟩
  | 86 => ⟨S2x8192x16x128, .f32⟩
  | 87 => ⟨S2x8192x2048, .f32⟩
  | 88 => ⟨S2x8192x1x16x128, .f32⟩
  | 89 => ⟨S2x8192x16x128, .f32⟩
  | 90 => ⟨S2x8192x2048, .f32⟩
  | 91 => ⟨S_, .i32⟩
  | 92 => ⟨S_, .f32⟩
  | 93 => ⟨S2x8195x4096, .f32⟩
  | 94 => ⟨S4x4096, .f32⟩
  | 95 => ⟨S1x4096, .f32⟩
  | 96 => ⟨S4096, .f32⟩
  | 97 => ⟨S2x8192x4096, .f32⟩
  | 98 => ⟨S1x1x4096, .f32⟩
  | 99 => ⟨S2x8192x4096, .f32⟩
  | 100 => ⟨S2x8192x4096, .f32⟩
  | 101 => ⟨S1x4096, .f32⟩
  | 102 => ⟨S4096, .f32⟩
  | 103 => ⟨S2x8192x4096, .f32⟩
  | 104 => ⟨S1x1x4096, .f32⟩
  | 105 => ⟨S2x8192x4096, .f32⟩
  | 106 => ⟨S2x8192x4096, .f32⟩
  | 107 => ⟨S2x8192x4096, .f32⟩
  | 108 => ⟨S1x4096, .f32⟩
  | 109 => ⟨S4096, .f32⟩
  | 110 => ⟨S2x8192x4096, .f32⟩
  | 111 => ⟨S1x1x4096, .f32⟩
  | 112 => ⟨S2x8192x4096, .f32⟩
  | 113 => ⟨S2x8192x4096, .f32⟩
  | 114 => ⟨S2x8192x4096, .f32⟩
  | 115 => ⟨S1x4096, .f32⟩
  | 116 => ⟨S4096, .f32⟩
  | 117 => ⟨S2x8192x4096, .f32⟩
  | 118 => ⟨S1x1x4096, .f32⟩
  | 119 => ⟨S2x8192x4096, .f32⟩
  | 120 => ⟨S2x8192x4096, .f32⟩
  | 121 => ⟨S2x8192x4096, .f32⟩
  | 122 => ⟨S4096, .f32⟩
  | 123 => ⟨S1x1x4096, .f32⟩
  | 124 => ⟨S2x8192x4096, .f32⟩
  | 125 => ⟨S2x8192x4096, .f32⟩
  | 126 => ⟨S2x8192x4096, .f32⟩
  | 127 => ⟨S2x8192x4096, .f32⟩
  | _ => ⟨S16384x4096, .f32⟩

abbrev hbmTy0_1 (i : Nat) : BufTy := match i % 128 with
  | 0 => ⟨S_, .f32⟩
  | 1 => ⟨S2x8192x4096, .f32⟩
  | 2 => ⟨S2x8192x4096, .f32⟩
  | 3 => ⟨S_, .f32⟩
  | 4 => ⟨S2x8192x4096, .f32⟩
  | 5 => ⟨S2x8192x4096, .f32⟩
  | 6 => ⟨S2x8192x4096, .f32⟩
  | 7 => ⟨S2x8192x2048, .f32⟩
  | 8 => ⟨S2x8192x14336, .f32⟩
  | 9 => ⟨S2x8192x32, .f32⟩
  | 10 => ⟨S2x8192x32, .f32⟩
  | 11 => ⟨S_, .f32⟩
  | 12 => ⟨S2x8192x64, .f32⟩
  | 13 => ⟨S2x8192x128, .f32⟩
  | 14 => ⟨S16384x14336, .f32⟩
  | 15 => ⟨S16384x128, .f32⟩
  | _ => ⟨S16384x4096, .f32⟩

abbrev hbmTy (i : Nat) : BufTy := match i / 128 with
  | 0 => hbmTy0_0 i
  | 1 => hbmTy0_1 i
  | _ => ⟨S16384x4096, .f32⟩

abbrev bufTy : (tb : Table) → Fin (tcTables nBuf tb) → BufTy
  | .hbm, ⟨i, _⟩ => hbmTy i
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_call0_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_2 : Ref sig .tc := ⟨.hbm, 73, rfl⟩
abbrev main_v54 : Ref sig .tc := ⟨.hbm, 74, rfl⟩
abbrev main_v55 : Ref sig .tc := ⟨.hbm, 75, rfl⟩
abbrev main_cst_3 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_4 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_c_5 : Ref sig .tc := ⟨.hbm, 91, rfl⟩
abbrev main_call2_v0 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_call3_v0 : Ref sig .tc := ⟨.hbm, 126, rfl⟩
abbrev main_call3_v1 : Ref sig .tc := ⟨.hbm, 127, rfl⟩
abbrev main_call3_cst : Ref sig .tc := ⟨.hbm, 128, rfl⟩
abbrev main_call3_v2 : Ref sig .tc := ⟨.hbm, 129, rfl⟩
abbrev main_call3_v3 : Ref sig .tc := ⟨.hbm, 130, rfl⟩
abbrev main_call3_cst_0 : Ref sig .tc := ⟨.hbm, 131, rfl⟩
abbrev main_call3_v4 : Ref sig .tc := ⟨.hbm, 132, rfl⟩
abbrev main_call3_v5 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_6 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩

abbrev nD : Nat := 1
abbrev τ : Topo := Topo.v7x

variable {F : FTy → Type} [FloatOps F]
-- ==== Kernel6.lean ====
abbrev S16384x128 : Shape := ⟨2, ![16384, 128]⟩
abbrev S1x16 : Shape := ⟨2, ![1, 16]⟩
abbrev S1x32 : Shape := ⟨2, ![1, 32]⟩
abbrev S_ : Shape := ⟨0, ![]⟩
abbrev S16 : Shape := ⟨1, ![16]⟩
abbrev S32 : Shape := ⟨1, ![32]⟩
abbrev S64 : Shape := ⟨1, ![64]⟩
abbrev S1x64 : Shape := ⟨2, ![1, 64]⟩
abbrev S1x128 : Shape := ⟨2, ![1, 128]⟩
abbrev S128x16384 : Shape := ⟨2, ![128, 16384]⟩
abbrev S256x128 : Shape := ⟨2, ![256, 128]⟩
abbrev S128x256 : Shape := ⟨2, ![128, 256]⟩
abbrev S256x256 : Shape := ⟨2, ![256, 256]⟩

abbrev nBuf : Space → Nat
  | .hbm => 26
  | .vmem => 10
  | .smem => 0
  | _ => 0

abbrev bufTy : (tb : Table) → Fin (tcTables nBuf tb) → BufTy
  | .hbm, ⟨0, _⟩ => ⟨S16384x128, .f32⟩
  | .hbm, ⟨1, _⟩ => ⟨S1x16, .f32⟩
  | .hbm, ⟨2, _⟩ => ⟨S1x16, .f32⟩
  | .hbm, ⟨3, _⟩ => ⟨S1x32, .f32⟩
  | .hbm, ⟨4, _⟩ => ⟨S1x32, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S32, .f32⟩
  | .hbm, ⟨9, _⟩ => ⟨S64, .f32⟩
  | .hbm, ⟨10, _⟩ => ⟨S1x64, .f32⟩
  | .hbm, ⟨11, _⟩ => ⟨S_, .i32⟩
  | .hbm, ⟨12, _⟩ => ⟨S_, .f32⟩
  | .hbm, ⟨13, _⟩ => ⟨S1x128, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S32, .f32⟩
  | .hbm, ⟨18, _⟩ => ⟨S64, .f32⟩
  | .hbm, ⟨19, _⟩ => ⟨S1x64, .f32⟩
  | .hbm, ⟨20, _⟩ => ⟨S_, .i32⟩
  | .hbm, ⟨21, _⟩ => ⟨S_, .f32⟩
  | .hbm, ⟨22, _⟩ => ⟨S1x128, .f32⟩
  | .hbm, ⟨23, _⟩ => ⟨S16384x128, .f32⟩
  | .hbm, ⟨24, _⟩ => ⟨S16384x128, .f32⟩
  | .hbm, ⟨25, _⟩ => ⟨S128x16384, .f32⟩
  | .local _ .vmem, ⟨0, _⟩ => ⟨S256x128, .f32⟩
  | .local _ .vmem, ⟨1, _⟩ => ⟨S256x128, .f32⟩
  | .local _ .vmem, ⟨2, _⟩ => ⟨S1x128, .f32⟩
  | .local _ .vmem, ⟨3, _⟩ => ⟨S1x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S128x256, .f32⟩
  | .local _ .vmem, ⟨9, _⟩ => ⟨S128x256, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_call1_v0 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S16384x128 : Shape := ⟨2, ![16384, 128]⟩
abbrev S1x16 : Shape := ⟨2, ![1, 16]⟩
abbrev S1x32 : Shape := ⟨2, ![1, 32]⟩
abbrev S_ : Shape := ⟨0, ![]⟩
abbrev S64 : Shape := ⟨1, ![64]⟩
abbrev S16384x16 : Shape := ⟨2, ![16384, 16]⟩
abbrev S16384x112 : Shape := ⟨2, ![16384, 112]⟩
abbrev S16 : Shape := ⟨1, ![16]⟩
abbrev S32 : Shape := ⟨1, ![32]⟩
abbrev S112 : Shape := ⟨1, ![112]⟩
abbrev S1x112 : Shape := ⟨2, ![1, 112]⟩
abbrev S256x64x112 : Shape := ⟨3, ![256, 64, 112]⟩
abbrev S16384x96 : Shape := ⟨2, ![16384, 96]⟩
abbrev S128x16384 : Shape := ⟨2, ![128, 16384]⟩

abbrev nBuf : Space → Nat
  | .hbm => 57
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S1x16, .f32⟩
  | .hbm, ⟨2, _⟩ => ⟨S1x16, .f32⟩
  | .hbm, ⟨3, _⟩ => ⟨S1x32, .f32⟩
  | .hbm, ⟨4, _⟩ => ⟨S1x32, .f32⟩
  | .hbm, ⟨5, _⟩ => ⟨S_, .f32⟩
  | .hbm, ⟨6, _⟩ => ⟨S64, .f32⟩
  | .hbm, ⟨7, _⟩ => ⟨S16384x16, .f32⟩
  | .hbm, ⟨8, _⟩ => ⟨S16384x16, .f32⟩
  | .hbm, ⟨9, _⟩ => ⟨S16384x16, .f32⟩
  | .hbm, ⟨10, _⟩ => ⟨S_, .f32⟩
  | .hbm, ⟨11, _⟩ => ⟨S16384x16, .f32⟩
  | .hbm, ⟨12, _⟩ => ⟨S16384x16, .f32⟩
  | .hbm, ⟨13, _⟩ => ⟨S_, .f32⟩
  | .hbm, ⟨14, _⟩ => ⟨S16384x16, .f32⟩
  | .hbm, ⟨15, _⟩ => ⟨S16384x16, .f32⟩
  | .hbm, ⟨16, _⟩ => ⟨S16384x112, .f32⟩
  | .hbm, ⟨17, _⟩ => ⟨S16, .f32⟩
  | .hbm, ⟨18, _⟩ => ⟨S32, .f32⟩
  | .hbm, ⟨19, _⟩ => ⟨S112, .f32⟩
  | .hbm, ⟨20, _⟩ => ⟨S1x112, .f32⟩
  | .hbm, ⟨21, _⟩ => ⟨S16384x112, .f32⟩
  | .hbm, ⟨22, _⟩ => ⟨S16384x112, .f32⟩
  | .hbm, ⟨23, _⟩ => ⟨S_, .f32⟩
  | .hbm, ⟨24, _⟩ => ⟨S16384x112, .f32⟩
  | .hbm, ⟨25, _⟩ => ⟨S16384x112, .f32⟩
  | .hbm, ⟨26, _⟩ => ⟨S16384x112, .f32⟩
  | .hbm, ⟨27, _⟩ => ⟨S16384x112, .f32⟩
  | .hbm, ⟨28, _⟩ => ⟨S16384x112, .i1⟩
  | .hbm, ⟨29, _⟩ => ⟨S16384x112, .f32⟩
  | .hbm, ⟨30, _⟩ => ⟨S16384x112, .f32⟩
  | .hbm, ⟨31, _⟩ => ⟨S16384x112, .f32⟩
  | .hbm, ⟨32, _⟩ => ⟨S16384x112, .f32⟩
  | .hbm, ⟨33, _⟩ => ⟨S16384x112, .f32⟩
  | .hbm, ⟨34, _⟩ => ⟨S16384x112, .f32⟩
  | .hbm, ⟨35, _⟩ => ⟨S16384x112, .f32⟩
  | .hbm, ⟨36, _⟩ => ⟨S16384x112, .f32⟩
  | .hbm, ⟨37, _⟩ => ⟨S16, .f32⟩
  | .hbm, ⟨38, _⟩ => ⟨S32, .f32⟩
  | .hbm, ⟨39, _⟩ => ⟨S112, .f32⟩
  | .hbm, ⟨40, _⟩ => ⟨S112, .f32⟩
  | .hbm, ⟨41, _⟩ => ⟨S112, .f32⟩
  | .hbm, ⟨42, _⟩ => ⟨S1x112, .f32⟩
  | .hbm, ⟨43, _⟩ => ⟨S16384x112, .f32⟩
  | .hbm, ⟨44, _⟩ => ⟨S16384x112, .f32⟩
  | .hbm, ⟨45, _⟩ => ⟨S256x64x112, .f32⟩
  | .hbm, ⟨46, _⟩ => ⟨S_, .f32⟩
  | .hbm, ⟨47, _⟩ => ⟨S_, .f32⟩
  | .hbm, ⟨48, _⟩ => ⟨S256x64x112, .f32⟩
  | .hbm, ⟨49, _⟩ => ⟨S16384x112, .f32⟩
  | .hbm, ⟨50, _⟩ => ⟨S16384x16, .f32⟩
  | .hbm, ⟨51, _⟩ => ⟨S16384x96, .f32⟩
  | .hbm, ⟨52, _⟩ => ⟨S16384x128, .f32⟩
  | .hbm, ⟨53, _⟩ => ⟨S_, .f32⟩
  | .hbm, ⟨54, _⟩ => ⟨S16384x16, .f32⟩
  | .hbm, ⟨55, _⟩ => ⟨S16384x128, .f32⟩
  | .hbm, ⟨56, _⟩ => ⟨S128x16384, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call1_call0_cst : Ref sig .tc := ⟨.hbm, 46, rfl⟩
abbrev main_call1_call0_v0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_2 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩

abbrev nD : Nat := 1
abbrev τ : Topo := Topo.v7x

variable {F : FTy → Type} [FloatOps F]
-- ==== Kernel7.lean ====
abbrev S1x4096x11008 : Shape := ⟨3, ![1, 4096, 11008]⟩
abbrev S4096x11008 : Shape := ⟨2, ![4096, 11008]⟩
abbrev S4096x11264 : Shape := ⟨2, ![4096, 11264]⟩
abbrev S128x11008 : Shape := ⟨2, ![128, 11008]⟩
abbrev S128x11264 : Shape := ⟨2, ![128, 11264]⟩
abbrev S128x256 : Shape := ⟨2, ![128, 256]⟩

abbrev nBuf : Space → Nat
  | .hbm => 3
  | .vmem => 4
  | .smem => 0
  | _ => 0

abbrev bufTy : (tb : Table) → Fin (tcTables nBuf tb) → BufTy
  | .hbm, ⟨0, _⟩ => ⟨S1x4096x11008, .f32⟩
  | .hbm, ⟨1, _⟩ => ⟨S4096x11008, .f32⟩
  | .hbm, ⟨2, _⟩ => ⟨S4096x11264, .bf16⟩
  | .local _ .vmem, ⟨0, _⟩ => ⟨S128x11008, .f32⟩
  | .local _ .vmem, ⟨1, _⟩ => ⟨S128x11008, .f32⟩
  | .local _ .vmem, ⟨2, _⟩ => ⟨S128x11264, .bf16⟩
  | .local _ .vmem, ⟨3, _⟩ => ⟨S128x11264, .bf16⟩
  | _, _ => ⟨S1x4096x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x11008 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x11264 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference7Ideal.lean ====
abbrev S1x4096x11008 : Shape := ⟨3, ![1, 4096, 11008]⟩
abbrev S4096x11008 : Shape := ⟨2, ![4096, 11008]⟩
abbrev S_ : Shape := ⟨0, ![]⟩
abbrev S4096x256 : Shape := ⟨2, ![4096, 256]⟩
abbrev S4096x11264 : Shape := ⟨2, ![4096, 11264]⟩

abbrev nBuf : Space → Nat
  | .hbm => 6
  | .vmem => 0
  | .smem => 0
  | _ => 0

abbrev bufTy : (tb : Table) → Fin (tcTables nBuf tb) → BufTy
  | .hbm, ⟨0, _⟩ => ⟨S1x4096x11008, .f32⟩
  | .hbm, ⟨1, _⟩ => ⟨S4096x11008, .f32⟩
  | .hbm, ⟨2, _⟩ => ⟨S4096x11008, .bf16⟩
  | .hbm, ⟨3, _⟩ => ⟨S_, .bf16⟩
  | .hbm, ⟨4, _⟩ => ⟨S4096x256, .bf16⟩
  | .hbm, ⟨5, _⟩ => ⟨S4096x11264, .bf16⟩
  | _, _ => ⟨S1x4096x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S1x11008x4096 : Shape := ⟨3, ![1, 11008, 4096]⟩
abbrev S11008x4096 : Shape := ⟨2, ![11008, 4096]⟩
abbrev S11264x4096 : Shape := ⟨2, ![11264, 4096]⟩
abbrev S256x4096 : Shape := ⟨2, ![256, 4096]⟩

abbrev nBuf : Space → Nat
  | .hbm => 3
  | .vmem => 4
  | .smem => 0
  | _ => 0

abbrev bufTy : (tb : Table) → Fin (tcTables nBuf tb) → BufTy
  | .hbm, ⟨0, _⟩ => ⟨S1x11008x4096, .f32⟩
  | .hbm, ⟨1, _⟩ => ⟨S11008x4096, .f32⟩
  | .hbm, ⟨2, _⟩ => ⟨S11264x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | _, _ => ⟨S1x11008x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c42_i32 : BitVec 32 := 42#32
  let v0 : BitVec 32 := Scalar.minsi arg0 c42_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference8Ideal.lean ====
abbrev S1x11008x4096 : Shape := ⟨3, ![1, 11008, 4096]⟩
abbrev S11008x4096 : Shape := ⟨2, ![11008, 4096]⟩
abbrev S_ : Shape := ⟨0, ![]⟩
abbrev S256x4096 : Shape := ⟨2, ![256, 4096]⟩
abbrev S11264x4096 : Shape := ⟨2, ![11264, 4096]⟩

abbrev nBuf : Space → Nat
  | .hbm => 6
  | .vmem => 0
  | .smem => 0
  | _ => 0

abbrev bufTy : (tb : Table) → Fin (tcTables nBuf tb) → BufTy
  | .hbm, ⟨0, _⟩ => ⟨S1x11008x4096, .f32⟩
  | .hbm, ⟨1, _⟩ => ⟨S11008x4096, .f32⟩
  | .hbm, ⟨2, _⟩ => ⟨S11008x4096, .bf16⟩
  | .hbm, ⟨3, _⟩ => ⟨S_, .bf16⟩
  | .hbm, ⟨4, _⟩ => ⟨S256x4096, .bf16⟩
  | .hbm, ⟨5, _⟩ => ⟨S11264x4096, .bf16⟩
  | _, _ => ⟨S1x11008x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.SsdChunk.lean ====
/-
  One chunk of the kernel's body: the two vectors it computes — the state after the chunk and the chunk's 64 output
  rows — and what each holds at an index, as expressions of the loaded vectors' entries.
-/
module

public import proofs.«01_k».proof.Proof.Gen.KernelIdeal.Value
public import Idealize.ShloMosaic.Lib.Pointwise
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem

namespace Cert.KernelIdeal.Ssd

open Cert.KernelIdeal Cert.KernelIdeal.Gen

/-- Rows `64 k .. 64 k + 63` of a block. -/
def sub256 (k : Fin 8) (v : Vec Ideal S512x256 .f32) : Vec Ideal S64x256 .f32 :=
  View.ld (S := S512x256) (Val := Elt Ideal) v (Rect.unit (s := S512x256) ![k.val * 64, 0] ![64, 256] (by
    intro a; fin_cases a
    · show k.val * 64 + 64 ≤ 512; omega
    · show 0 + 256 ≤ 256; omega))
def sub128 (k : Fin 8) (v : Vec Ideal S512x128 .f32) : Vec Ideal S64x128 .f32 :=
  View.ld (S := S512x128) (Val := Elt Ideal) v (Rect.unit (s := S512x128) ![k.val * 64, 0] ![64, 128] (by
    intro a; fin_cases a
    · show k.val * 64 + 64 ≤ 512; omega
    · show 0 + 128 ≤ 128; omega))
/-- Row `k` of the block of transposed cumulative sums. -/
def subRow (k : Fin 8) (v : Vec Ideal S1x8x256 .f32) : Vec Ideal S1x1x256 .f32 :=
  View.ld (S := S1x8x256) (Val := Elt Ideal) v (Rect.unit (s := S1x8x256) ![0, k.val, 0] ![1, 1, 256] (by
    intro a; fin_cases a
    · show 0 + 1 ≤ 1; omega
    · show k.val + 1 ≤ 8; omega
    · show 0 + 256 ≤ 256; omega))

theorem sub256_at (k : Fin 8) (v : Vec Ideal S512x256 .f32) (l : Fin 64) (w : Fin 256) :
    sub256 k v (ix2 l w) = v (ix2 (⟨k.val * 64 + l.val, by omega⟩ : Fin 512) w) := by
  pointwise [sub256]
theorem sub128_at (k : Fin 8) (v : Vec Ideal S512x128 .f32) (l : Fin 64) (w : Fin 128) :
    sub128 k v (ix2 l w) = v (ix2 (⟨k.val * 64 + l.val, by omega⟩ : Fin 512) w) := by
  pointwise [sub128]
theorem subRow_at (k : Fin 8) (v : Vec Ideal S1x8x256 .f32) (w : Fin 256) : subRow k v (ix3 0 0 w) = v (ix3 0 k w) := by
  pointwise [subRow]

/-- Each lane's head. -/
def grp : IVec S64x256 32 := k0_pay14 (iota .tc S64x256 32 [1] iota_S64x256_d1_w32) k0_pay13

/-- The state after a chunk, from the state before it. -/
def hNext (bm : Vec Ideal S64x128 .f32) (x dt a : Vec Ideal S64x256 .f32) (h : Vec Ideal S128x256 .f32) : Vec Ideal S128x256 .f32 :=
  k0_pay58 (F := Ideal) (k0_pay33 a) (k0_pay49 bm a (k0_pay25 x dt) (k0_pay33 a)) h

/-- The chunk's output rows. -/
def oChunk (x : Vec Ideal S64x256 .f32) (bm cm : Vec Ideal S64x128 .f32) (z dt a : Vec Ideal S64x256 .f32) (ar : Vec Ideal S1x1x256 .f32)
    (dsk nw : Vec Ideal S1x256 .f32) (h : Vec Ideal S128x256 .f32) : Vec Ideal S64x256 .bf16 :=
  k0_pay111 (F := Ideal) (k0_pay15 dsk) (k0_pay16 nw) x
    (k0_pay93 (k0_pay41 bm cm) (k0_pay67 k0_pay12 a (k0_pay17 ar)) (k0_pay76 grp (k0_pay25 x dt))) (k0_pay101 cm a h) z

/-- The state before chunk `k` of the block. -/
def hK (x : Vec Ideal S512x256 .f32) (bm : Vec Ideal S512x128 .f32) (dt a : Vec Ideal S512x256 .f32) (h : Vec Ideal S128x256 .f32) :
    ℕ → Vec Ideal S128x256 .f32
  | 0 => h
  | k + 1 => if hk : k < 8 then hNext (sub128 ⟨k, hk⟩ bm) (sub256 ⟨k, hk⟩ x) (sub256 ⟨k, hk⟩ dt) (sub256 ⟨k, hk⟩ a) (hK x bm dt a h k) else h

/-- Chunk `k`'s output rows. -/
def oK (x : Vec Ideal S512x256 .f32) (bm cm : Vec Ideal S512x128 .f32) (z dt a : Vec Ideal S512x256 .f32) (ar : Vec Ideal S1x8x256 .f32)
    (dsk nw : Vec Ideal S1x256 .f32) (h : Vec Ideal S128x256 .f32) (k : Fin 8) : Vec Ideal S64x256 .bf16 :=
  oChunk (sub256 k x) (sub128 k bm) (sub128 k cm) (sub256 k z) (sub256 k dt) (sub256 k a) (subRow k ar) dsk nw (hK x bm dt a h k.val)

theorem hK_succ (x : Vec Ideal S512x256 .f32) (bm : Vec Ideal S512x128 .f32) (dt a : Vec Ideal S512x256 .f32) (h : Vec Ideal S128x256 .f32) (k : Fin 8) :
    hK x bm dt a h (k.val + 1) = hNext (sub128 k bm) (sub256 k x) (sub256 k dt) (sub256 k a) (hK x bm dt a h k.val) := by
  simp only [hK, k.isLt, dite_true]

theorem hNext_at (bm : Vec Ideal S64x128 .f32) (x dt a : Vec Ideal S64x256 .f32) (h : Vec Ideal S128x256 .f32) (n : Fin 128) (w : Fin 256) :
    hNext bm x dt a h (ix2 n w) = h (ix2 n w) * Ideal.exp (a (ix2 63 w))
      + ∑ l : Fin 64, bm (ix2 l n) * (x (ix2 l w) * dt (ix2 l w) * Ideal.exp (a (ix2 63 w) - a (ix2 l w))) := by
  pointwise [hNext, k0_pay58, k0_pay33, k0_pay49, k0_pay25]

theorem shr_at : ∀ w : Fin 256, IntOp.shrsi .vector (BitVec.ofNat 32 w.val) 6#32 = BitVec.ofNat 32 (w.val / 64) := by decide +kernel
theorem and_at : ∀ w : Fin 256, IntOp.andi (BitVec.ofNat 32 w.val) 63#32 = BitVec.ofNat 32 (w.val % 64) := by decide +kernel
theorem mask_bot : (Named.named κ "mask" 4048155338#32 : Ideal .f32) = ⊥ := rfl

/-- The block-diagonal stack: row `j` holds row `j % 64` of the vector on the lanes of head `j / 64`, zero elsewhere. -/
theorem xbd_at (v : FVec Ideal S64x256 .f32) (j w : Fin 256) :
    k0_pay76 (F := Ideal) grp v (ix2 j w) = if w.val / 64 = j.val / 64 then v (ix2 (⟨j.val % 64, by omega⟩ : Fin 64) w) else 0 := by
  pointwise [k0_pay76, grp, k0_pay14, k0_pay13, shr_at]
  word_cmp
  by_cases hw : w.val / 64 = j.val / 64
  · rw [if_pos hw]
    split_ifs
    all_goals first | (exfalso; omega) | blk_point []
  · rw [if_neg hw]
    split_ifs
    all_goals first | rfl | (exfalso; omega)

theorem ydiag_at (bm cm : Vec Ideal S64x128 .f32) (x dt a : Vec Ideal S64x256 .f32) (ar : Vec Ideal S1x1x256 .f32) (l : Fin 64) (w : Fin 256) :
    k0_pay93 (F := Ideal) (k0_pay41 bm cm) (k0_pay67 k0_pay12 a (k0_pay17 ar)) (k0_pay76 grp (k0_pay25 x dt)) (ix2 l w) =
      ∑ s : Fin 64, ((∑ n : Fin 128, cm (ix2 l n) * bm (ix2 s n)) *
        Ideal.exp (if s.val ≤ l.val then a (ix2 l (⟨w.val / 64 * 64 + s.val, by omega⟩ : Fin 256)) - ar (ix3 0 0 (⟨w.val / 64 * 64 + s.val, by omega⟩ : Fin 256)) else ⊥)) *
        (x (ix2 s w) * dt (ix2 s w)) := by
  trans ∑ j : Fin 256, ((∑ n : Fin 128, cm (ix2 l n) * bm (ix2 (⟨j.val % 64, by omega⟩ : Fin 64) n)) *
        Ideal.exp (if j.val % 64 ≤ l.val then a (ix2 l j) - ar (ix3 0 0 j) else ⊥)) *
        (if w.val / 64 = j.val / 64 then x (ix2 (⟨j.val % 64, by omega⟩ : Fin 64) w) * dt (ix2 (⟨j.val % 64, by omega⟩ : Fin 64) w) else 0)
  · generalize hv : k0_pay25 (F := Ideal) x dt = v
    pointwise [k0_pay93, k0_pay41, k0_pay67, k0_pay12, k0_pay17, and_at, mask_bot, xbd_at, ← hv, k0_pay25]
    word_cmp
    blk_point []
  · symm
    refine Fintype.sum_of_injective (fun s : Fin 64 => (⟨w.val / 64 * 64 + s.val, by omega⟩ : Fin 256)) (fun a b h => ?_) _ _ (fun j hj => ?_) (fun s => ?_)
    · have := congrArg Fin.val h; simp only at this; ext; omega
    · rw [if_neg (c := w.val / 64 = j.val / 64), mul_zero]
      intro h
      exact hj ⟨⟨j.val % 64, by omega⟩, by ext; simp only; omega⟩
    · have h1 : (w.val / 64 * 64 + s.val) % 64 = s.val := by omega
      have h2 : w.val / 64 = (w.val / 64 * 64 + s.val) / 64 := by omega
      simp only [h1, ← h2, if_true]

theorem yoff_at (cm : Vec Ideal S64x128 .f32) (a : Vec Ideal S64x256 .f32) (h : Vec Ideal S128x256 .f32) (l : Fin 64) (w : Fin 256) :
    k0_pay101 (F := Ideal) cm a h (ix2 l w) = (∑ n : Fin 128, cm (ix2 l n) * h (ix2 n w)) * Ideal.exp (a (ix2 l w)) := by
  pointwise [k0_pay101]

theorem last_at (dsk nw : Vec Ideal S1x256 .f32) (x yd yo z : Vec Ideal S64x256 .f32) (l : Fin 64) (w : Fin 256) (Y : Fin 256 → EReal)
    (hY : ∀ u : Fin 256, Y u = (yd (ix2 l u) + yo (ix2 l u) + x (ix2 l u) * dsk (ix2 0 u)) * (z (ix2 l u) * Ideal.div 1 (1 + Ideal.exp (-z (ix2 l u))))) :
    k0_pay111 (F := Ideal) (k0_pay15 dsk) (k0_pay16 nw) x yd yo z (ix2 l w) =
      Y w * Ideal.rsqrt (Ideal.div (∑ u : Fin 256, Y u * Y u) (Ideal.ofBits .f32 0x43800000#32) + Ideal.ofBits .f32 0x358637BD#32) * nw (ix2 0 w) := by
  simp only [hY]
  pointwise [k0_pay111, k0_pay15, k0_pay16, zero_sub]

/-- The step sizes, one column for each lane: lane `w` of row `q` holds the row's entry of head `w / 64` of the group. -/
def dtV (i : grid0.Coords) (v : Vec Ideal S512x128 .f32) : Vec Ideal S512x256 .f32 :=
  k0_pay10 (F := Ideal) (BitVec.ofNat 32 (i 1).val) v (iota .tc S512x128 32 [1] iota_S512x128_d1_w32) k0_pay3
    (k0_pay7 (BitVec.ofNat 32 (i 1).val) v (iota .tc S512x128 32 [1] iota_S512x128_d1_w32) k0_pay3
      (k0_pay4 i v) (Scalar.muli (BitVec.ofNat 32 (i 1).val) 4#32))

/-- The cumulative sums, spread the same way. -/
def axV (i : grid0.Coords) (v : Vec Ideal S512x128 .f32) : Vec Ideal S512x256 .f32 :=
  k0_pay11 (F := Ideal) (BitVec.ofNat 32 (i 1).val) v (iota .tc S512x128 32 [1] iota_S512x128_d1_w32) k0_pay3
    (k0_pay6 v (iota .tc S512x128 32 [1] iota_S512x128_d1_w32) k0_pay3 (k0_pay5 i v)
      (Scalar.muli (BitVec.ofNat 32 (i 1).val) 4#32))
    (k0_pay8 k0_pay3)
    (k0_pay9 (BitVec.ofNat 32 (i 1).val) v (iota .tc S512x128 32 [1] iota_S512x128_d1_w32))

theorem lane_word : ∀ g : Fin 8,
    (Scalar.addi (Scalar.addi 32#32 (Scalar.muli (BitVec.ofNat 32 g.val) 4#32)) 0#32).toNat = 32 + g.val * 4 + 0
    ∧ (Scalar.addi (Scalar.addi 32#32 (Scalar.muli (BitVec.ofNat 32 g.val) 4#32)) 1#32).toNat = 32 + g.val * 4 + 1
    ∧ (Scalar.addi (Scalar.addi 32#32 (Scalar.muli (BitVec.ofNat 32 g.val) 4#32)) 2#32).toNat = 32 + g.val * 4 + 2
    ∧ (Scalar.addi (Scalar.addi 32#32 (Scalar.muli (BitVec.ofNat 32 g.val) 4#32)) 3#32).toNat = 32 + g.val * 4 + 3 := by decide +kernel

/-- One entry picked out of a row by its lane number. -/
theorem pick (f : Fin 128 → EReal) (hd : Fin 128) (N : ℕ) (h : hd.val = N) : (∑ x : Fin 128, if x.val = N then f x else 0) = f hd := by
  subst h
  simp only [← Fin.ext_iff, Finset.sum_ite_eq', Finset.mem_univ, if_true]

theorem dtV_at (i : grid0.Coords) (v : Vec Ideal S512x128 .f32) (q : Fin 512) (w : Fin 256) (hd : Fin 128)
    (e : hd.val = 32 + (i 1).val * 4 + w.val / 64) : dtV i v (ix2 q w) = v (ix2 q hd) := by
  obtain ⟨g, hg⟩ : ∃ g : Fin 8, g.val = (i 1).val := ⟨⟨(i 1).val, (i 1).isLt⟩, rfl⟩
  obtain ⟨l0, l1, l2, l3⟩ := lane_word g
  pointwise [dtV, k0_pay10, k0_pay7, k0_pay4, k0_pay3, ← hg, shr_at]
  word_cmp
  rw [l0, l1, l2, l3]
  have hw := w.isLt
  split_ifs
  all_goals first | (exfalso; omega) | exact pick (fun x => v (ix2 q x)) hd _ (by omega)

theorem axV_at (i : grid0.Coords) (v : Vec Ideal S512x128 .f32) (q : Fin 512) (w : Fin 256) (hd : Fin 128)
    (e : hd.val = 32 + (i 1).val * 4 + w.val / 64) : axV i v (ix2 q w) = v (ix2 q hd) := by
  obtain ⟨g, hg⟩ : ∃ g : Fin 8, g.val = (i 1).val := ⟨⟨(i 1).val, (i 1).isLt⟩, rfl⟩
  obtain ⟨l0, l1, l2, l3⟩ := lane_word g
  pointwise [axV, k0_pay11, k0_pay6, k0_pay5, k0_pay3, k0_pay8, k0_pay9, ← hg, shr_at]
  word_cmp
  rw [l0, l1, l2, l3]
  have hw := w.isLt
  split_ifs
  all_goals first | (exfalso; omega) | exact pick (fun x => v (ix2 q x)) hd _ (by omega)

end Cert.KernelIdeal.Ssd

end
-- ==== Proof.SsdPoint.lean ====
/-
  What a grid point leaves in its output block and in the carried state, as the chunks' functions of the staged blocks.
-/
module

public import proofs.«01_k».proof.Proof.SsdChunk
public import Idealize.ShloMosaic.Lib.Pipeline.ReadBack

@[expose] public section

set_option maxRecDepth 16384

noncomputable section

open Idealize.ShloMosaic Idealize.ShloMosaic.TcCoe Idealize.SL.Sem

namespace Cert.KernelIdeal.Ssd

open Cert.KernelIdeal Cert.KernelIdeal.Gen

/-- The zero state. -/
def zeroSt : Vec Ideal S128x256 .f32 := k0_pay2 (F := Ideal)

theorem zeroSt_at (n : Fin 128) (w : Fin 256) : zeroSt (ix2 n w) = 0 := by
  pointwise [zeroSt, k0_pay2]

/-- The eight chunks' rows, one under the other. -/
def oB (x : Vec Ideal S512x256 .f32) (bm cm : Vec Ideal S512x128 .f32) (z dt a : Vec Ideal S512x256 .f32) (ar : Vec Ideal S1x8x256 .f32)
    (dsk nw : Vec Ideal S1x256 .f32) (h : Vec Ideal S128x256 .f32) : Vec Ideal S512x256 .bf16 := fun y =>
  oK x bm cm z dt a ar dsk nw h (⟨(y 0).val / 64, by have := (y 0).isLt; change (y 0).val < 512 at this; omega⟩ : Fin 8)
    (ix2 (⟨(y 0).val % 64, by omega⟩ : Fin 64) (y 1))

theorem oB_at (x : Vec Ideal S512x256 .f32) (bm cm : Vec Ideal S512x128 .f32) (z dt a : Vec Ideal S512x256 .f32) (ar : Vec Ideal S1x8x256 .f32)
    (dsk nw : Vec Ideal S1x256 .f32) (h : Vec Ideal S128x256 .f32) (y : S512x256.Idx) (k : Fin 8) (j : S64x256.Idx)
    (e0 : (y 0).val = k.val * 64 + (j 0).val) (e1 : (y 1).val = (j 1).val) :
    oB x bm cm z dt a ar dsk nw h y = oK x bm cm z dt a ar dsk nw h k j := by
  have hj : (j 0).val < 64 := (j 0).isLt
  unfold oB
  congr 1
  · ext; show (y 0).val / 64 = k.val; omega
  · funext b
    fin_cases b
    · apply Fin.ext; show (y 0).val % 64 = (j 0).val; omega
    · exact Fin.ext e1

/-- The state stored at the end of a block is the last chunk's. -/
theorem pay66_eq (v275 v276 v277 v278 v279 : FVec Ideal S1x256 .f32) (v332 v339 v346 v353 v360 v367 v379 : FVec Ideal S128x256 .f32) :
    k0_pay66 (F := Ideal) v275 v276 v277 v278 v279 v332 v339 v346 v353 v360 v367 v379
      = k0_pay58 v279 v367 (k0_pay65 v275 v276 v277 v278 v332 v339 v346 v353 v360 v379) :=
  shapeCast_self _ _

theorem zz : ∀ a : Fin S512x256.rank, (![0, 0] : Fin 2 → ℕ) a = 0 := by decide

set_option maxHeartbeats 4000000 in
/-- What a point leaves in its output block, over the state the point before left. -/
theorem out_B (c : Dev nD) (i : grid0.Coords) (a3 : Memref sig .tc .vmem S512x256 .f32) (h3) (a4 : Memref sig .tc .vmem S512x128 .f32) (h4) (a5 : Memref sig .tc .vmem S512x128 .f32) (h5) (a6 : Memref sig .tc .vmem S512x256 .f32) (h6) (a7 : Memref sig .tc .vmem S512x128 .f32) (h7) (a8 : Memref sig .tc .vmem S512x128 .f32) (h8) (a9 : Memref sig .tc .vmem S1x8x256 .f32) (h9) (a10 : Memref sig .tc .vmem S1x256 .f32) (h10) (a11 : Memref sig .tc .vmem S1x256 .f32) (h11) (a12 : Memref sig .tc .vmem S512x256 .bf16) (h12) (a13 : Memref sig .tc .vmem S128x256 .f32) (h13) (a14 : Memref sig .tc .vmem S512x256 .f32) (h14) (a15 : Memref sig .tc .vmem S512x256 .f32) (h15)
    (hc) (x0 : Vec Ideal S512x256 .f32) (x1 x2 : Vec Ideal S512x128 .f32) (x3 : Vec Ideal S512x256 .f32) (x4 x5 : Vec Ideal S512x128 .f32)
    (x6 : Vec Ideal S1x8x256 .f32) (x7 x8 : Vec Ideal S1x256 .f32) (xs0 : Vec Ideal S128x256 .f32) (y : S512x256.Idx) :
    out0_B_9 (F := Ideal) c i a3 h3 a4 h4 a5 h5 a6 h6 a7 h7 a8 h8 a9 h9 a10 h10 a11 h11 a12 h12 a13 h13 a14 h14 a15 h15 hc x0 x1 x2 x3 x4 x5 x6 x7 x8 xs0 y
      = oB x0 x1 x2 x3 (dtV i x4) (axV i x5) x6 x7 x8 xs0 y := by
  frame_out
  canon_tiles x hx
  · rw [oB_at _ _ _ _ _ _ _ _ _ _ y 7 x (by simpa using hx0) hx1]
    simp only [View.readCov_fill (h := zz)]
    rfl
  · rw [oB_at _ _ _ _ _ _ _ _ _ _ y 6 x (by simpa using hx0) hx1]
    simp only [View.readCov_fill (h := zz)]
    rfl
  · rw [oB_at _ _ _ _ _ _ _ _ _ _ y 5 x (by simpa using hx0) hx1]
    simp only [View.readCov_fill (h := zz)]
    rfl
  · rw [oB_at _ _ _ _ _ _ _ _ _ _ y 4 x (by simpa using hx0) hx1]
    simp only [View.readCov_fill (h := zz)]
    rfl
  · rw [oB_at _ _ _ _ _ _ _ _ _ _ y 3 x (by simpa using hx0) hx1]
    simp only [View.readCov_fill (h := zz)]
    rfl
  · rw [oB_at _ _ _ _ _ _ _ _ _ _ y 2 x (by simpa using hx0) hx1]
    simp only [View.readCov_fill (h := zz)]
    rfl
  · rw [oB_at _ _ _ _ _ _ _ _ _ _ y 1 x (by simpa using hx0) hx1]
    simp only [View.readCov_fill (h := zz)]
    rfl
  · rw [oB_at _ _ _ _ _ _ _ _ _ _ y 0 x (by simpa using hx0) hx1]
    simp only [View.readCov_fill (h := zz)]
    rfl

set_option maxHeartbeats 4000000 in
/-- What a point leaves in the carried state, over the state the point before left. -/
theorem st_B (c : Dev nD) (i : grid0.Coords) (a3 : Memref sig .tc .vmem S512x256 .f32) (h3) (a4 : Memref sig .tc .vmem S512x128 .f32) (h4) (a5 : Memref sig .tc .vmem S512x128 .f32) (h5) (a6 : Memref sig .tc .vmem S512x256 .f32) (h6) (a7 : Memref sig .tc .vmem S512x128 .f32) (h7) (a8 : Memref sig .tc .vmem S512x128 .f32) (h8) (a9 : Memref sig .tc .vmem S1x8x256 .f32) (h9) (a10 : Memref sig .tc .vmem S1x256 .f32) (h10) (a11 : Memref sig .tc .vmem S1x256 .f32) (h11) (a12 : Memref sig .tc .vmem S512x256 .bf16) (h12) (a13 : Memref sig .tc .vmem S128x256 .f32) (h13) (a14 : Memref sig .tc .vmem S512x256 .f32) (h14) (a15 : Memref sig .tc .vmem S512x256 .f32) (h15)
    (hc) (x0 : Vec Ideal S512x256 .f32) (x1 x2 : Vec Ideal S512x128 .f32) (x3 : Vec Ideal S512x256 .f32) (x4 x5 : Vec Ideal S512x128 .f32)
    (x6 : Vec Ideal S1x8x256 .f32) (x7 x8 : Vec Ideal S1x256 .f32) (xs0 : Vec Ideal S128x256 .f32) :
    sout0_B_0 (F := Ideal) c i a3 h3 a4 h4 a5 h5 a6 h6 a7 h7 a8 h8 a9 h9 a10 h10 a11 h11 a12 h12 a13 h13 a14 h14 a15 h15 hc x0 x1 x2 x3 x4 x5 x6 x7 x8 xs0
      = hK x0 x1 (dtV i x4) (axV i x5) xs0 8 := by
  funext y
  frame_out
  simp only [View.readCov_fill (h := zz)]
  rw [pay66_eq]
  rfl

set_option maxHeartbeats 4000000 in
/-- What a point leaves in its output block, at the first point of a sequence. -/
theorem out_A (c : Dev nD) (i : grid0.Coords) (a3 : Memref sig .tc .vmem S512x256 .f32) (h3) (a4 : Memref sig .tc .vmem S512x128 .f32) (h4) (a5 : Memref sig .tc .vmem S512x128 .f32) (h5) (a6 : Memref sig .tc .vmem S512x256 .f32) (h6) (a7 : Memref sig .tc .vmem S512x128 .f32) (h7) (a8 : Memref sig .tc .vmem S512x128 .f32) (h8) (a9 : Memref sig .tc .vmem S1x8x256 .f32) (h9) (a10 : Memref sig .tc .vmem S1x256 .f32) (h10) (a11 : Memref sig .tc .vmem S1x256 .f32) (h11) (a12 : Memref sig .tc .vmem S512x256 .bf16) (h12) (a13 : Memref sig .tc .vmem S128x256 .f32) (h13) (a14 : Memref sig .tc .vmem S512x256 .f32) (h14) (a15 : Memref sig .tc .vmem S512x256 .f32) (h15)
    (hc) (x0 : Vec Ideal S512x256 .f32) (x1 x2 : Vec Ideal S512x128 .f32) (x3 : Vec Ideal S512x256 .f32) (x4 x5 : Vec Ideal S512x128 .f32)
    (x6 : Vec Ideal S1x8x256 .f32) (x7 x8 : Vec Ideal S1x256 .f32) (y : S512x256.Idx) :
    out0_A_9 (F := Ideal) c i a3 h3 a4 h4 a5 h5 a6 h6 a7 h7 a8 h8 a9 h9 a10 h10 a11 h11 a12 h12 a13 h13 a14 h14 a15 h15 hc x0 x1 x2 x3 x4 x5 x6 x7 x8 y
      = oB x0 x1 x2 x3 (dtV i x4) (axV i x5) x6 x7 x8 zeroSt y := by
  frame_out
  canon_tiles x hx
  · rw [oB_at _ _ _ _ _ _ _ _ _ _ y 7 x (by simpa using hx0) hx1]
    simp only [View.readCov_fill (h := zz)]
    rfl
  · rw [oB_at _ _ _ _ _ _ _ _ _ _ y 6 x (by simpa using hx0) hx1]
    simp only [View.readCov_fill (h := zz)]
    rfl
  · rw [oB_at _ _ _ _ _ _ _ _ _ _ y 5 x (by simpa using hx0) hx1]
    simp only [View.readCov_fill (h := zz)]
    rfl
  · rw [oB_at _ _ _ _ _ _ _ _ _ _ y 4 x (by simpa using hx0) hx1]
    simp only [View.readCov_fill (h := zz)]
    rfl
  · rw [oB_at _ _ _ _ _ _ _ _ _ _ y 3 x (by simpa using hx0) hx1]
    simp only [View.readCov_fill (h := zz)]
    rfl
  · rw [oB_at _ _ _ _ _ _ _ _ _ _ y 2 x (by simpa using hx0) hx1]
    simp only [View.readCov_fill (h := zz)]
    rfl
  · rw [oB_at _ _ _ _ _ _ _ _ _ _ y 1 x (by simpa using hx0) hx1]
    simp only [View.readCov_fill (h := zz)]
    rfl
  · rw [oB_at _ _ _ _ _ _ _ _ _ _ y 0 x (by simpa using hx0) hx1]
    simp only [View.readCov_fill (h := zz)]
    rfl

set_option maxHeartbeats 4000000 in
/-- What a point leaves in the carried state, at the first point of a sequence. -/
theorem st_A (c : Dev nD) (i : grid0.Coords) (a3 : Memref sig .tc .vmem S512x256 .f32) (h3) (a4 : Memref sig .tc .vmem S512x128 .f32) (h4) (a5 : Memref sig .tc .vmem S512x128 .f32) (h5) (a6 : Memref sig .tc .vmem S512x256 .f32) (h6) (a7 : Memref sig .tc .vmem S512x128 .f32) (h7) (a8 : Memref sig .tc .vmem S512x128 .f32) (h8) (a9 : Memref sig .tc .vmem S1x8x256 .f32) (h9) (a10 : Memref sig .tc .vmem S1x256 .f32) (h10) (a11 : Memref sig .tc .vmem S1x256 .f32) (h11) (a12 : Memref sig .tc .vmem S512x256 .bf16) (h12) (a13 : Memref sig .tc .vmem S128x256 .f32) (h13) (a14 : Memref sig .tc .vmem S512x256 .f32) (h14) (a15 : Memref sig .tc .vmem S512x256 .f32) (h15)
    (hc) (x0 : Vec Ideal S512x256 .f32) (x1 x2 : Vec Ideal S512x128 .f32) (x3 : Vec Ideal S512x256 .f32) (x4 x5 : Vec Ideal S512x128 .f32)
    (x6 : Vec Ideal S1x8x256 .f32) (x7 x8 : Vec Ideal S1x256 .f32) :
    sout0_A_0 (F := Ideal) c i a3 h3 a4 h4 a5 h5 a6 h6 a7 h7 a8 h8 a9 h9 a10 h10 a11 h11 a12 h12 a13 h13 a14 h14 a15 h15 hc x0 x1 x2 x3 x4 x5 x6 x7 x8
      = hK x0 x1 (dtV i x4) (axV i x5) zeroSt 8 := by
  funext y
  frame_out
  simp only [View.readCov_fill (h := zz)]
  rw [pay66_eq]
  rfl

end Cert.KernelIdeal.Ssd

end
-- ==== Proof.SsdRef.lean ====
/-
  The reference's result, read index by index: `val X D A Dk W row col` is the mixer's output at one row and column as an
  expression of the five arguments over the extended reals — the state `hst` by recursion on the chunk, the part of
  the output inside a chunk `yd`, the part through the state `yo`, the gate and the normalisation over 256 lanes — and
  `ref_val` says that the reference's composed term, at its loop's last state, is that expression at every index.
-/
module

public import proofs.«01_k».proof.Proof.Gen.ReferenceIdeal.StepRun
public import Idealize.ShloMosaic.Lib.Pointwise
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem

namespace Cert.Ssd

abbrev SX : Shape := ⟨2, ![16384, 14336]⟩
abbrev SD : Shape := ⟨2, ![16384, 128]⟩
abbrev SK : Shape := ⟨2, ![1, 32]⟩
abbrev SW : Shape := ⟨2, ![1, 2048]⟩

/-- Row `l` of chunk `c` of sequence `b`. -/
abbrev row (b : Fin 2) (c : Fin 128) (l : Fin 64) : Fin 16384 := ⟨b.val * 8192 + c.val * 64 + l.val, by omega⟩
/-- Head `r` of group `g`: its column of the step sizes and of the cumulative sums. -/
abbrev hd (g : Fin 8) (r : Fin 4) : Fin 128 := ⟨32 + g.val * 4 + r.val, by omega⟩
abbrev xcol (g : Fin 8) (r : Fin 4) (p : Fin 64) : Fin 14336 := ⟨10240 + g.val * 256 + r.val * 64 + p.val, by omega⟩
abbrev zcol (g : Fin 8) (r : Fin 4) (p : Fin 64) : Fin 14336 := ⟨8192 + g.val * 256 + r.val * 64 + p.val, by omega⟩
abbrev bcol (g : Fin 8) (n : Fin 128) : Fin 14336 := ⟨12288 + g.val * 128 + n.val, by omega⟩
abbrev ccol (g : Fin 8) (n : Fin 128) : Fin 14336 := ⟨13312 + g.val * 128 + n.val, by omega⟩

variable (X : FVec Ideal SX .f32) (D A : FVec Ideal SD .f32) (Dk : FVec Ideal SK .f32) (W : FVec Ideal SW .f32)

/-- `x * dt`. -/
def xdt (b : Fin 2) (g : Fin 8) (c : Fin 128) (l : Fin 64) (r : Fin 4) (p : Fin 64) : EReal :=
  X (ix2 (row b c l) (xcol g r p)) * D (ix2 (row b c l) (hd g r))

/-- What chunk `c` adds to the state. -/
def inc (b : Fin 2) (g : Fin 8) (c : Fin 128) (r : Fin 4) (p : Fin 64) (n : Fin 128) : EReal :=
  ∑ l : Fin 64, xdt X D b g c l r p * Ideal.exp (A (ix2 (row b c 63) (hd g r)) - A (ix2 (row b c l) (hd g r))) * X (ix2 (row b c l) (bcol g n))

/-- The state before chunk `k`. -/
def hst (b : Fin 2) (g : Fin 8) (r : Fin 4) (p : Fin 64) (n : Fin 128) : ℕ → EReal
  | 0 => 0
  | k + 1 => if h : k < 128 then
      hst b g r p n k * Ideal.exp (A (ix2 (row b ⟨k, h⟩ 63) (hd g r))) + inc X D A b g ⟨k, h⟩ r p n
    else 0

/-- The decay from row `s` to row `l` of a chunk; nothing comes from a later row. -/
def dec (b : Fin 2) (g : Fin 8) (c : Fin 128) (l s : Fin 64) (r : Fin 4) : EReal :=
  Ideal.exp (if s.val ≤ l.val then A (ix2 (row b c l) (hd g r)) - A (ix2 (row b c s) (hd g r)) else ⊥)

/-- The part of the output inside a chunk. -/
def yd (b : Fin 2) (g : Fin 8) (c : Fin 128) (l : Fin 64) (r : Fin 4) (p : Fin 64) : EReal :=
  ∑ s : Fin 64, xdt X D b g c s r p *
    ((∑ n : Fin 128, X (ix2 (row b c s) (bcol g n)) * X (ix2 (row b c l) (ccol g n))) * dec A b g c l s r)

/-- The part through the state. -/
def yo (b : Fin 2) (g : Fin 8) (c : Fin 128) (l : Fin 64) (r : Fin 4) (p : Fin 64) : EReal :=
  (∑ n : Fin 128, hst X D A b g r p n c.val * X (ix2 (row b c l) (ccol g n))) * Ideal.exp (A (ix2 (row b c l) (hd g r)))

/-- The gate. -/
def gate (z : EReal) : EReal := z * Ideal.div 1 (1 + Ideal.exp (-z))

/-- The gated output of one head's lane. -/
def yg (b : Fin 2) (g : Fin 8) (c : Fin 128) (l : Fin 64) (r : Fin 4) (p : Fin 64) : EReal :=
  (yd X D A b g c l r p + yo X D A b g c l r p
    + X (ix2 (row b c l) (xcol g r p)) * Dk (ix2 0 (⟨g.val * 4 + r.val, by omega⟩ : Fin 32)))
  * gate (X (ix2 (row b c l) (zcol g r p)))

/-- The same, the group's 256 lanes counted through. -/
def ygl (b : Fin 2) (g : Fin 8) (c : Fin 128) (l : Fin 64) (w : Fin 256) : EReal :=
  yg X D A Dk b g c l (⟨w.val / 64, by omega⟩ : Fin 4) (⟨w.val % 64, by omega⟩ : Fin 64)

/-- The output at one row and lane: normalised over the group's 256 lanes and weighted. -/
def out (b : Fin 2) (g : Fin 8) (c : Fin 128) (l : Fin 64) (w : Fin 256) : EReal :=
  ygl X D A Dk b g c l w
    * Ideal.rsqrt (Ideal.div (∑ u : Fin 256, ygl X D A Dk b g c l u * ygl X D A Dk b g c l u) (Ideal.ofBits .f32 0x43800000#32) + Ideal.ofBits .f32 0x358637BD#32)
    * W (ix2 0 (⟨g.val * 256 + w.val, by omega⟩ : Fin 2048))

end Cert.Ssd

namespace Cert.ReferenceIdeal.Ssd

open Cert.ReferenceIdeal Cert.ReferenceIdeal.Gen Cert.ReferenceIdeal.Step Cert.Ssd

variable (X : FVec Ideal S16384x14336 .f32) (D A : FVec Ideal S16384x128 .f32) (Dk : FVec Ideal S1x32 .f32) (W : FVec Ideal S1x2048 .f32)

/-- The reference's sequence of states: `init` of its arguments, then `step` chunk by chunk. -/
def iter : ℕ → State Ideal
  | 0 => init X D A
  | n + 1 => step n (iter n)

theorem iter_1 : ∀ n, (iter X D A n).main_v27_1 = A_main_v25 X D A
  | 0 => rfl
  | n + 1 => iter_1 n

theorem iter_2 : ∀ n, (iter X D A n).main_v27_2 = A_main_v26 X D A
  | 0 => rfl
  | n + 1 => iter_2 n

/-- What every chunk adds to the state. -/
theorem A25_at (c : Fin 128) (b : Fin 2) (g : Fin 8) (r : Fin 4) (p : Fin 64) (n : Fin 128) :
    A_main_v25 (F := Ideal) X D A (ix6 c b g r p n) = inc X D A b g c r p n := by
  pointwise [A_main_v25, A_main_v18, A_main_v17, A_main_v16, A_main_v15, A_main_v14, A_main_v13, A_main_v12, A_main_v11, A_main_v10,
    A_main_v9, A_main_v8, A_main_v7, A_main_v6, A_main_v5, A_main_v4, A_main_v3, A_main_v2, A_main_v1, A_main_v0, inc, xdt]
  blk_point []

theorem A26_at (c : Fin 128) (b : Fin 2) (g : Fin 8) (r : Fin 4) :
    A_main_v26 (F := Ideal) X D A (ix4 c b g r) = Ideal.exp (A (ix2 (row b c 63) (hd g r))) := by
  pointwise [A_main_v26, A_main_v21, A_main_v20, A_main_v19, A_main_v7, A_main_v6]
  blk_point []

theorem toInt_small : ∀ k : Fin 128, (BitVec.ofNat 32 k.val).toInt = (k.val : ℤ) := by decide +kernel

theorem step_h (s : State Ideal) (k : Fin 128) (b : Fin 2) (g : Fin 8) (r : Fin 4) (p : Fin 64) (n : Fin 128) :
    (step k.val s).main_v27_4 (ix5 b g r p n)
      = s.main_v27_4 (ix5 b g r p n) * s.main_v27_2 (ix4 k b g r) + s.main_v27_1 (ix6 k b g r p n) := by
  show b21 k.val s _ = _
  pointwise [b21, b20, b19, b18, b13, b12, b8, b7, Host.clampedStart, b2, b3, b4, b5, b6, b9, b10, b11, toInt_small k, Matrix.cons_val_succ]
  blk_point []

theorem step_prev (s : State Ideal) (k : Fin 128) (c : Fin 128) (b : Fin 2) (g : Fin 8) (r : Fin 4) (p : Fin 64) (n : Fin 128) :
    (step k.val s).main_v27_5 (ix6 c b g r p n)
      = s.main_v27_5 (ix6 c b g r p n) + (if c.val = k.val then s.main_v27_4 (ix5 b g r p n) else 0) := by
  show b28 k.val s _ = _
  have e : ∀ h, Host.clampedStart S128 S1 h (fun _ => (BitVec.ofNat 32 k.val).toInt) 0 = k.val := fun h =>
    Host.clampedStart_of_le _ _ _ _ (toInt_small k) (by show k.val + 1 ≤ 128; omega)
  pointwise [b28, b27, b26, b25, b24, b23, b22, b17, b16, b15, b14, b1, b0, K_main_v24, e]
  word_cmp

/-- The state before chunk `k` is `hst`. -/
theorem iter_h (b : Fin 2) (g : Fin 8) (r : Fin 4) (p : Fin 64) (n : Fin 128) : ∀ k : ℕ, k ≤ 128 →
    (iter X D A k).main_v27_4 (ix5 b g r p n) = hst X D A b g r p n k
  | 0, _ => by
    show K_main_v22 (F := Ideal) (ix5 b g r p n) = 0
    pointwise [K_main_v22, K_main_cst]
  | k + 1, h => by
    have hk : k < 128 := h
    have e := step_h (iter X D A k) ⟨k, hk⟩ b g r p n
    rw [iter_1, iter_2, iter_h b g r p n k hk.le, A25_at, A26_at] at e
    exact e.trans (by rw [hst, dif_pos hk])

/-- Before chunk `k` the array of kept states holds the states before the chunks already passed, and zero elsewhere. -/
theorem iter_prev (c : Fin 128) (b : Fin 2) (g : Fin 8) (r : Fin 4) (p : Fin 64) (n : Fin 128) : ∀ k : ℕ, k ≤ 128 →
    (iter X D A k).main_v27_5 (ix6 c b g r p n) = if c.val < k then hst X D A b g r p n c.val else 0
  | 0, _ => by
    show K_main_v23 (F := Ideal) (ix6 c b g r p n) = _
    pointwise [K_main_v23, K_main_cst_0]
    simp
  | k + 1, h => by
    have hk : k < 128 := h
    have e := step_prev (iter X D A k) ⟨k, hk⟩ c b g r p n
    rw [iter_prev c b g r p n k hk.le, iter_h X D A b g r p n k hk.le] at e
    refine e.trans ?_
    rcases lt_trichotomy c.val k with h1 | h1 | h1
    · rw [if_pos h1, if_neg (by show ¬ c.val = k; omega), if_pos (by omega), add_zero]
    · rw [if_neg (by omega), if_pos (by exact h1), if_pos (by omega), zero_add, h1]
    · rw [if_neg (by omega), if_neg (by show ¬ c.val = k; omega), if_neg (by omega), add_zero]

/-- The reference's terms: the part inside a chunk, the part through the state, the gated sum. -/
def YD (X : FVec Ideal S16384x14336 .f32) (D A : FVec Ideal S16384x128 .f32) : FVec Ideal S2x128x64x8x4x64 .f32 := (transpose S2x128x64x8x4x64 [0, 1, 5, 2, 3, 4] (Host.dotGeneral dot_S2x128x64x8x4x64_S2x128x64x64x8x4_S2x128x8x4x64x64_2_3_5_2_0134_0145 none (mulf (shapeCast _ (extractStridedSlice S16384x2048 ![0, 10240] (X) slices_S16384x14336_S16384x2048_0_10240) shapeCasts_S16384x2048_S2x128x64x8x4x64) (broadcastInDim S2x128x64x8x4x64 ![0, 1, 2, 3, 4, 5] bcast_S2x128x64x8x4x1_S2x128x64x8x4x64_0_1_2_3_4_5 (broadcastInDim S2x128x64x8x4x1 ![0, 1, 2, 3, 4] bcast_S2x128x64x8x4_S2x128x64x8x4x1_0_1_2_3_4 (shapeCast _ (extractStridedSlice S16384x32 ![0, 32] (D) slices_S16384x128_S16384x32_0_32) shapeCasts_S16384x32_S2x128x64x8x4)))) (mulf (broadcastInDim S2x128x64x64x8x4 ![0, 1, 2, 3, 4, 5] bcast_S2x128x64x64x8x1_S2x128x64x64x8x4_0_1_2_3_4_5 (broadcastInDim S2x128x64x64x8x1 ![0, 1, 2, 3, 4] bcast_S2x128x64x64x8_S2x128x64x64x8x1_0_1_2_3_4 (transpose S2x128x64x64x8 [0, 1, 4, 3, 2] (Host.dotGeneral dot_S2x128x64x8x128_S2x128x64x8x128_S2x128x8x64x64_4_4_2_2_013_013 none (shapeCast _ (extractStridedSlice S16384x1024 ![0, 12288] (X) slices_S16384x14336_S16384x1024_0_12288) shapeCasts_S16384x1024_S2x128x64x8x128) (shapeCast _ (extractStridedSlice S16384x1024 ![0, 13312] (X) slices_S16384x14336_S16384x1024_0_13312) shapeCasts_S16384x1024_S2x128x64x8x128)) transposes_S2x128x8x64x64_S2x128x64x64x8_0_1_4_3_2))) (Host.exp (select (broadcastInDim S2x128x64x64x8x4 ![2, 3, 4, 5] bcast_S64x64x1x1_S2x128x64x64x8x4_2_3_4_5 (broadcastInDim S64x64x1x1 ![0, 1] bcast_S64x64_S64x64x1x1_0_1 (cmpi .sge (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0)))))) (subf (broadcastInDim S2x128x64x64x8x4 ![0, 1, 2, 3, 4, 5] bcast_S2x128x64x1x8x4_S2x128x64x64x8x4_0_1_2_3_4_5 (broadcastInDim S2x128x64x1x8x4 ![0, 1, 2, 4, 5] bcast_S2x128x64x8x4_S2x128x64x1x8x4_0_1_2_4_5 (shapeCast _ (extractStridedSlice S16384x32 ![0, 32] (A) slices_S16384x128_S16384x32_0_32) shapeCasts_S16384x32_S2x128x64x8x4))) (broadcastInDim S2x128x64x64x8x4 ![0, 1, 2, 3, 4, 5] bcast_S2x128x1x64x8x4_S2x128x64x64x8x4_0_1_2_3_4_5 (broadcastInDim S2x128x1x64x8x4 ![0, 1, 3, 4, 5] bcast_S2x128x64x8x4_S2x128x1x64x8x4_0_1_3_4_5 (shapeCast _ (extractStridedSlice S16384x32 ![0, 32] (A) slices_S16384x128_S16384x32_0_32) shapeCasts_S16384x32_S2x128x64x8x4)))) (broadcastInDim S2x128x64x64x8x4 ![] bcast_S_S2x128x64x64x8x4 (id (constant S_ .f32 0xFF800000#32))))))) transposes_S2x128x8x4x64x64_S2x128x64x8x4x64_0_1_5_2_3_4)
def YO (X : FVec Ideal S16384x14336 .f32) (A : FVec Ideal S16384x128 .f32) (H : FVec Ideal S128x2x8x4x64x128 .f32) : FVec Ideal S2x128x64x8x4x64 .f32 := (mulf (transpose S2x128x64x8x4x64 [0, 1, 5, 2, 3, 4] (Host.dotGeneral dot_S128x2x8x4x64x128_S2x128x64x8x128_S2x128x8x4x64x64_5_4_34_2_102_013 none (H) (shapeCast _ (extractStridedSlice S16384x1024 ![0, 13312] (X) slices_S16384x14336_S16384x1024_0_13312) shapeCasts_S16384x1024_S2x128x64x8x128)) transposes_S2x128x8x4x64x64_S2x128x64x8x4x64_0_1_5_2_3_4) (broadcastInDim S2x128x64x8x4x64 ![0, 1, 2, 3, 4, 5] bcast_S2x128x64x8x4x1_S2x128x64x8x4x64_0_1_2_3_4_5 (broadcastInDim S2x128x64x8x4x1 ![0, 1, 2, 3, 4] bcast_S2x128x64x8x4_S2x128x64x8x4x1_0_1_2_3_4 (Host.exp (shapeCast _ (extractStridedSlice S16384x32 ![0, 32] (A) slices_S16384x128_S16384x32_0_32) shapeCasts_S16384x32_S2x128x64x8x4)))))
def YG (X : FVec Ideal S16384x14336 .f32) (D A : FVec Ideal S16384x128 .f32) (Dk : FVec Ideal S1x32 .f32) (H : FVec Ideal S128x2x8x4x64x128 .f32) : FVec Ideal S2x8192x8x256 .f32 := (shapeCast _ (mulf (shapeCast _ (addf (shapeCast _ (addf (YD X D A) (YO X A H)) shapeCasts_S2x128x64x8x4x64_S2x8192x32x64) (mulf (shapeCast _ (shapeCast _ (extractStridedSlice S16384x2048 ![0, 10240] (X) slices_S16384x14336_S16384x2048_0_10240) shapeCasts_S16384x2048_S2x128x64x8x4x64) shapeCasts_S2x128x64x8x4x64_S2x8192x32x64) (broadcastInDim S2x8192x32x64 ![0, 1, 2, 3] bcast_S1x1x32x1_S2x8192x32x64_0_1_2_3 (broadcastInDim S1x1x32x1 ![2, 3] bcast_S32x1_S1x1x32x1_2_3 (broadcastInDim S32x1 ![0] bcast_S32_S32x1_0 (shapeCast _ (Dk) shapeCasts_S1x32_S32)))))) shapeCasts_S2x8192x32x64_S2x8192x2048) (mulf (shapeCast _ (extractStridedSlice S16384x2048 ![0, 8192] (X) slices_S16384x14336_S16384x2048_0_8192) shapeCasts_S16384x2048_S2x8192x2048) (Host.divf (broadcastInDim S2x8192x2048 ![] bcast_S_S2x8192x2048 (constant S_ .f32 0x3F800000#32)) (addf (broadcastInDim S2x8192x2048 ![] bcast_S_S2x8192x2048 (constant S_ .f32 0x3F800000#32)) (Host.exp (Host.negf (shapeCast _ (extractStridedSlice S16384x2048 ![0, 8192] (X) slices_S16384x14336_S16384x2048_0_8192) shapeCasts_S16384x2048_S2x8192x2048))))))) shapeCasts_S2x8192x2048_S2x8192x8x256)

/-- The reference's result, of the gated sum. -/
def RO (W : FVec Ideal S1x2048 .f32) (Y : FVec Ideal S2x8192x8x256 .f32) : FVec Ideal S16384x2048 .bf16 := truncf .bf16 (shapeCast _ (mulf (shapeCast _ (mulf Y (broadcastInDim S2x8192x8x256 ![0, 1, 2, 3] bcast_S2x8192x8x1_S2x8192x8x256_0_1_2_3 (Host.rsqrt (addf (Host.divf (broadcastInDim S2x8192x8x1 ![0, 1, 2] bcast_S2x8192x8_S2x8192x8x1_0_1_2 (Host.reduceAdd (mulf Y Y) (constant S_ .f32 0x00000000#32) reducesTo_S2x8192x8x256_S2x8192x8_d3 h_S_)) (broadcastInDim S2x8192x8x1 ![] bcast_S_S2x8192x8x1 (constant S_ .f32 0x43800000#32))) (broadcastInDim S2x8192x8x1 ![] bcast_S_S2x8192x8x1 (constant S_ .f32 0x358637BD#32)))))) shapeCasts_S2x8192x8x256_S2x8192x2048) (broadcastInDim S2x8192x2048 ![0, 1, 2] bcast_S1x1x2048_S2x8192x2048_0_1_2 (broadcastInDim S1x1x2048 ![2] bcast_S2048_S1x1x2048_2 (shapeCast _ (W) shapeCasts_S1x2048_S2048)))) shapeCasts_S2x8192x2048_S16384x2048) bitsLt_bf16_f32

set_option maxHeartbeats 1600000 in
theorem R_eq (s : State Ideal) : R_main_v99 s X D A Dk W = RO W (YG X D A Dk s.main_v27_5) := by
  unfold R_main_v99 RO YG YD YO
  rfl

theorem YD_at (b : Fin 2) (c : Fin 128) (l : Fin 64) (g : Fin 8) (r : Fin 4) (p : Fin 64) :
    YD X D A (ix6 b c l g r p) = yd X D A b g c l r p := by
  have e : Ideal.ofBits .f32 0xFF800000#32 = ⊥ := by simp [Ideal.ofBits, Ideal.ieee]
  pointwise [YD, yd, xdt, dec, id_eq, e]
  word_cmp
  blk_point []

theorem YO_at (H : FVec Ideal S128x2x8x4x64x128 .f32) (hs : ∀ c b g r p n, H (ix6 c b g r p n) = hst X D A b g r p n c.val)
    (b : Fin 2) (c : Fin 128) (l : Fin 64) (g : Fin 8) (r : Fin 4) (p : Fin 64) :
    YO X A H (ix6 b c l g r p) = yo X D A b g c l r p := by
  pointwise [YO, yo, hs]
  blk_point []

theorem YG_at (H : FVec Ideal S128x2x8x4x64x128 .f32) (hs : ∀ c b g r p n, H (ix6 c b g r p n) = hst X D A b g r p n c.val)
    (b : Fin 2) (c : Fin 128) (l : Fin 64) (g : Fin 8) (w : Fin 256) :
    YG X D A Dk H (ix4 b (⟨c.val * 64 + l.val, by omega⟩ : Fin 8192) g w) = ygl X D A Dk b g c l w := by
  pointwise [YG, ygl, yg, gate]
  rw [← YD_at, ← YO_at X D A H hs]
  blk_point []

/-- The reference's result at row `l` of chunk `c` of sequence `b`, lane `w` of group `g`. -/
theorem ref_val (b : Fin 2) (c : Fin 128) (l : Fin 64) (g : Fin 8) (w : Fin 256) :
    R_main_v99 (iter X D A 128) X D A Dk W (ix2 (row b c l) (⟨g.val * 256 + w.val, by omega⟩ : Fin 2048))
      = out X D A Dk W b g c l w := by
  have hs : ∀ c b g r p n, (iter X D A 128).main_v27_5 (ix6 c b g r p n) = hst X D A b g r p n c.val :=
    fun c b g r p n => (iter_prev X D A c b g r p n 128 le_rfl).trans (if_pos c.isLt)
  rw [R_eq]
  pointwise [RO, out]
  simp only [← YG_at X D A Dk _ hs]
  blk_point []

end Cert.ReferenceIdeal.Ssd
end
end
-- ==== Proof.SsdKernel.lean ====
/-
  The kernel's result: the carried state after each grid point is the recurrence's state, each point's output block holds
  the mixer's output at its rows, and the result array is the mixer's output at every index.
-/
module

public import proofs.«01_k».proof.Proof.SsdPoint
public import proofs.«01_k».proof.Proof.SsdRef

@[expose] public section

set_option maxRecDepth 16384

noncomputable section

open Idealize.ShloMosaic Idealize.ShloMosaic.TcCoe Idealize.SL.Sem

namespace Cert.KernelIdeal.Ssd

open Cert.KernelIdeal Cert.KernelIdeal.Gen Cert.Ssd

variable (m : (ℓ : Loc nD τ sig) → Buf (Elt Ideal) ℓ) (c : Dev nD)

abbrev aX : FVec Ideal SX .f32 := m ((c.tc : Thread nD τ).loc main_arg0)
abbrev aD : FVec Ideal SD .f32 := m ((c.tc : Thread nD τ).loc main_arg1)
abbrev aA : FVec Ideal SD .f32 := m ((c.tc : Thread nD τ).loc main_arg2)
abbrev aK : FVec Ideal SK .f32 := m ((c.tc : Thread nD τ).loc main_arg3)
abbrev aW : FVec Ideal SW .f32 := m ((c.tc : Thread nD τ).loc main_arg4)

def B0 (t : Fin cfg0.N) : Vec Ideal S512x256 .f32 := iblk m c 0 t
def B1 (t : Fin cfg0.N) : Vec Ideal S512x128 .f32 := iblk m c 1 t
def B2 (t : Fin cfg0.N) : Vec Ideal S512x128 .f32 := iblk m c 2 t
def B3 (t : Fin cfg0.N) : Vec Ideal S512x256 .f32 := iblk m c 3 t
def B4 (t : Fin cfg0.N) : Vec Ideal S512x128 .f32 := iblk m c 4 t
def B5 (t : Fin cfg0.N) : Vec Ideal S512x128 .f32 := iblk m c 5 t
def B6 (t : Fin cfg0.N) : Vec Ideal S1x8x256 .f32 := iblk m c 6 t
def B7 (t : Fin cfg0.N) : Vec Ideal S1x256 .f32 := iblk m c 7 t
def B8 (t : Fin cfg0.N) : Vec Ideal S1x256 .f32 := iblk m c 8 t

theorem idx : ∀ t : Fin cfg0.N,
    win0_0.index t = ![t.val / 128 * 16 + t.val % 16, 40 + t.val / 16 % 8]
    ∧ win0_1.index t = ![t.val / 128 * 16 + t.val % 16, 96 + t.val / 16 % 8]
    ∧ win0_2.index t = ![t.val / 128 * 16 + t.val % 16, 104 + t.val / 16 % 8]
    ∧ win0_3.index t = ![t.val / 128 * 16 + t.val % 16, 32 + t.val / 16 % 8]
    ∧ win0_4.index t = ![t.val / 128 * 16 + t.val % 16, 0]
    ∧ win0_5.index t = ![t.val / 128 * 16 + t.val % 16, 0]
    ∧ win0_6.index t = ![t.val / 16 % 8, t.val / 128 * 16 + t.val % 16, 0]
    ∧ win0_7.index t = ![0, t.val / 16 % 8]
    ∧ win0_8.index t = ![0, t.val / 16 % 8]
    ∧ win0_9.index t = ![t.val / 128 * 16 + t.val % 16, t.val / 16 % 8] :=
  (by decide +kernel : ∀ t : Fin grid0.N, _)

theorem coord1 : ∀ t : Fin cfg0.N, (grid0.coords t 1).val = t.val / 16 % 8 := (by decide +kernel : ∀ t : Fin grid0.N, _)

/-- Chunk `k` of block `tt` of a sequence. -/
abbrev ck (tt : Fin 16) (k : Fin 8) : Fin 128 := ⟨tt.val * 8 + k.val, by omega⟩
abbrev ln (r : Fin 4) (p : Fin 64) : Fin 256 := ⟨r.val * 64 + p.val, by omega⟩

section Reads

variable (t : Fin cfg0.N) (b : Fin 2) (g : Fin 8) (tt : Fin 16) (ht : t.val = (b.val * 8 + g.val) * 16 + tt.val) (k : Fin 8)

include ht

theorem x_at (l : Fin 64) (r : Fin 4) (p : Fin 64) : sub256 k (B0 m c t) (ix2 l (ln r p)) = aX m c (ix2 (row b (ck tt k) l) (xcol g r p)) := by
  rw [sub256_at]; unfold B0; blk_ext [iblk, V, idx t]
theorem z_at (l : Fin 64) (r : Fin 4) (p : Fin 64) : sub256 k (B3 m c t) (ix2 l (ln r p)) = aX m c (ix2 (row b (ck tt k) l) (zcol g r p)) := by
  rw [sub256_at]; unfold B3; blk_ext [iblk, V, idx t]
theorem bm_at (l : Fin 64) (n : Fin 128) : sub128 k (B1 m c t) (ix2 l n) = aX m c (ix2 (row b (ck tt k) l) (bcol g n)) := by
  rw [sub128_at]; unfold B1; blk_ext [iblk, V, idx t]
theorem cm_at (l : Fin 64) (n : Fin 128) : sub128 k (B2 m c t) (ix2 l n) = aX m c (ix2 (row b (ck tt k) l) (ccol g n)) := by
  rw [sub128_at]; unfold B2; blk_ext [iblk, V, idx t]
theorem dt_at (l : Fin 64) (r : Fin 4) (p : Fin 64) :
    sub256 k (dtV (grid0.coords t) (B4 m c t)) (ix2 l (ln r p)) = aD m c (ix2 (row b (ck tt k) l) (hd g r)) := by
  have e := coord1 t
  rw [sub256_at, dtV_at _ _ _ _ (hd g r) (by show 32 + g.val * 4 + r.val = 32 + (grid0.coords t 1).val * 4 + (r.val * 64 + p.val) / 64; omega)]
  unfold B4; blk_ext [iblk, V, idx t]
theorem ax_at (l : Fin 64) (r : Fin 4) (p : Fin 64) :
    sub256 k (axV (grid0.coords t) (B5 m c t)) (ix2 l (ln r p)) = aA m c (ix2 (row b (ck tt k) l) (hd g r)) := by
  have e := coord1 t
  rw [sub256_at, axV_at _ _ _ _ (hd g r) (by show 32 + g.val * 4 + r.val = 32 + (grid0.coords t 1).val * 4 + (r.val * 64 + p.val) / 64; omega)]
  unfold B5; blk_ext [iblk, V, idx t]
theorem ar_at (r : Fin 4) (s : Fin 64) : subRow k (B6 m c t) (ix3 0 0 (ln r s)) = aA m c (ix2 (row b (ck tt k) s) (hd g r)) := by
  rw [subRow_at]; unfold B6; blk_point [iblk, idx t]
theorem dk_at (r : Fin 4) (p : Fin 64) : B7 m c t (ix2 0 (ln r p)) = aK m c (ix2 0 (⟨g.val * 4 + r.val, by omega⟩ : Fin 32)) := by
  unfold B7; blk_point [iblk, idx t]
theorem nw_at (w : Fin 256) : B8 m c t (ix2 0 w) = aW m c (ix2 0 (⟨g.val * 256 + w.val, by omega⟩ : Fin 2048)) := by
  unfold B8; blk_point [iblk, idx t]

/-- A chunk's step of the state is the recurrence's. -/
theorem chunk_st (h : Vec Ideal S128x256 .f32) (n : Fin 128) (r : Fin 4) (p : Fin 64)
    (hh : h (ix2 n (ln r p)) = hst (aX m c) (aD m c) (aA m c) b g r p n (tt.val * 8 + k.val)) :
    hNext (sub128 k (B1 m c t)) (sub256 k (B0 m c t)) (sub256 k (dtV (grid0.coords t) (B4 m c t))) (sub256 k (axV (grid0.coords t) (B5 m c t))) h (ix2 n (ln r p))
      = hst (aX m c) (aD m c) (aA m c) b g r p n (tt.val * 8 + k.val + 1) := by
  have hk : tt.val * 8 + k.val < 128 := by omega
  rw [hNext_at, hh, hst, dif_pos hk]
  simp only [x_at m c t b g tt ht k, bm_at m c t b g tt ht k, dt_at m c t b g tt ht k, ax_at m c t b g tt ht k, inc, xdt]
  congr 1
  exact Finset.sum_congr rfl fun l _ => mul_comm _ _

/-- The state before chunk `k` of block `tt`. -/
theorem hK_at (h : Vec Ideal S128x256 .f32)
    (hh : ∀ n r p, h (ix2 n (ln r p)) = hst (aX m c) (aD m c) (aA m c) b g r p n (tt.val * 8)) :
    ∀ j : ℕ, j ≤ 8 → ∀ n r p, hK (B0 m c t) (B1 m c t) (dtV (grid0.coords t) (B4 m c t)) (axV (grid0.coords t) (B5 m c t)) h j (ix2 n (ln r p))
      = hst (aX m c) (aD m c) (aA m c) b g r p n (tt.val * 8 + j)
  | 0, _, n, r, p => hh n r p
  | j + 1, hj, n, r, p => by
    have e := hK_succ (B0 m c t) (B1 m c t) (dtV (grid0.coords t) (B4 m c t)) (axV (grid0.coords t) (B5 m c t)) h ⟨j, by omega⟩
    rw [show j + 1 = (⟨j, by omega⟩ : Fin 8).val + 1 from rfl, e]
    exact chunk_st m c t b g tt ht ⟨j, by omega⟩ _ n r p (hK_at h hh j (by omega) n r p)

/-- The block's output rows are the mixer's. -/
theorem oK_at (h : Vec Ideal S128x256 .f32)
    (hh : ∀ n r p, h (ix2 n (ln r p)) = hst (aX m c) (aD m c) (aA m c) b g r p n (tt.val * 8)) (l : Fin 64) (w : Fin 256) :
    oK (B0 m c t) (B1 m c t) (B2 m c t) (B3 m c t) (dtV (grid0.coords t) (B4 m c t)) (axV (grid0.coords t) (B5 m c t)) (B6 m c t) (B7 m c t) (B8 m c t) h k (ix2 l w)
      = out (aX m c) (aD m c) (aA m c) (aK m c) (aW m c) b g (ck tt k) l w := by
  have hs := hK_at m c t b g tt ht h hh k.val (by omega)
  unfold oK oChunk
  rw [last_at _ _ _ _ _ _ l w (fun u => ygl (aX m c) (aD m c) (aA m c) (aK m c) b g (ck tt k) l u), nw_at m c t b g tt ht w]
  · rfl
  · intro u
    obtain ⟨r, p, rfl⟩ : ∃ (r : Fin 4) (p : Fin 64), u = ln r p :=
      ⟨⟨u.val / 64, by omega⟩, ⟨u.val % 64, by omega⟩, by ext; show u.val = u.val / 64 * 64 + u.val % 64; omega⟩
    have e1 : (⟨(ln r p).val / 64, by omega⟩ : Fin 4) = r := by ext; show (r.val * 64 + p.val) / 64 = r.val; omega
    have e2 : (⟨(ln r p).val % 64, by omega⟩ : Fin 64) = p := by ext; show (r.val * 64 + p.val) % 64 = p.val; omega
    have e3 : ∀ s : Fin 64, (⟨(ln r p).val / 64 * 64 + s.val, by omega⟩ : Fin 256) = ln r s := fun s => by
      ext; show (r.val * 64 + p.val) / 64 * 64 + s.val = r.val * 64 + s.val; omega
    show ygl _ _ _ _ _ _ _ _ _ = _
    unfold ygl
    rw [e1, e2, ydiag_at, yoff_at]
    simp only [e3, x_at m c t b g tt ht k, bm_at m c t b g tt ht k, cm_at m c t b g tt ht k, z_at m c t b g tt ht k, dt_at m c t b g tt ht k,
      ax_at m c t b g tt ht k, ar_at m c t b g tt ht k, dk_at m c t b g tt ht, hs, yg, yd, yo, dec, gate, xdt]
    congr 3
    · refine Finset.sum_congr rfl fun s _ => ?_
      rw [mul_comm]
      congr 2
      exact Finset.sum_congr rfl fun n _ => mul_comm _ _
    · congr 1
      exact Finset.sum_congr rfl fun n _ => mul_comm _ _

end Reads

/-- The carried state after a point is the recurrence's state after the point's eight chunks. -/
theorem state_at : ∀ (n : ℕ) (hn : n < cfg0.N) (b : Fin 2) (g : Fin 8) (tt : Fin 16), n = (b.val * 8 + g.val) * 16 + tt.val →
    ∀ (s : Fin 128) (r : Fin 4) (p : Fin 64), (outsAt0 m c n hn).2 (ix2 s (ln r p)) = hst (aX m c) (aD m c) (aA m c) b g r p s (tt.val * 8 + 8)
  | n, hn, b, g, tt, e, s, r, p => by
    by_cases h0 : n % 16 = 0
    · rw [outsAt0_A m c ⟨n, hn⟩ h0]
      dsimp only
      rw [st_A]
      refine hK_at m c ⟨n, hn⟩ b g tt e _ (fun n' r' p' => ?_) 8 le_rfl s r p
      rw [zeroSt_at, show tt.val * 8 = 0 by omega]; rfl
    · rw [outsAt0_B m c ⟨n, hn⟩ h0]
      dsimp only
      rw [st_B]
      refine hK_at m c ⟨n, hn⟩ b g tt e _ (fun n' r' p' => ?_) 8 le_rfl s r p
      rw [state_at (n - 1) _ b g ⟨tt.val - 1, by omega⟩ (by show n - 1 = (b.val * 8 + g.val) * 16 + (tt.val - 1); omega) n' r' p']
      congr 1
      show (tt.val - 1) * 8 + 8 = tt.val * 8
      omega

/-- The result array: the mixer's output at every index. -/
def G : Vec Ideal S16384x2048 .bf16 := fun y =>
  out (aX m c) (aD m c) (aA m c) (aK m c) (aW m c)
    (⟨(y 0).val / 8192, by have := (y 0).isLt; change (y 0).val < 16384 at this; omega⟩ : Fin 2)
    (⟨(y 1).val / 256, by have := (y 1).isLt; change (y 1).val < 2048 at this; omega⟩ : Fin 8)
    (⟨(y 0).val % 8192 / 64, by omega⟩ : Fin 128) (⟨(y 0).val % 64, by omega⟩ : Fin 64) (⟨(y 1).val % 256, by omega⟩ : Fin 256)

/-- What a point leaves in its output block. -/
theorem outBlk (t : Fin cfg0.N) (b : Fin 2) (g : Fin 8) (tt : Fin 16) (ht : t.val = (b.val * 8 + g.val) * 16 + tt.val) (q : Fin 512) (w : Fin 256) :
    (outsAt0 m c t.val t.isLt).1 (ix2 q w) = out (aX m c) (aD m c) (aA m c) (aK m c) (aW m c) b g
      (ck tt (⟨q.val / 64, by omega⟩ : Fin 8)) (⟨q.val % 64, by omega⟩ : Fin 64) w := by
  by_cases h0 : t.val % 16 = 0
  · rw [outsAt0_A m c t h0]
    dsimp only
    rw [out_A]
    refine oK_at m c t b g tt ht _ _ (fun n' r' p' => ?_) _ w
    rw [zeroSt_at, show tt.val * 8 = 0 by omega]; rfl
  · rw [outsAt0_B m c t h0]
    dsimp only
    rw [out_B]
    refine oK_at m c t b g tt ht _ _ (fun n' r' p' => ?_) _ w
    rw [state_at m c (t.val - 1) _ b g ⟨tt.val - 1, by omega⟩ (by show t.val - 1 = (b.val * 8 + g.val) * 16 + (tt.val - 1); omega) n' r' p']
    congr 1
    show (tt.val - 1) * 8 + 8 = tt.val * 8
    omega

theorem out_congr (b b' : Fin 2) (g g' : Fin 8) (c1 c2 : Fin 128) (l l' : Fin 64) (w w' : Fin 256) (hb : b.val = b'.val) (hg : g.val = g'.val)
    (hc : c1.val = c2.val) (hl : l.val = l'.val) (hw : w.val = w'.val) :
    out (aX m c) (aD m c) (aA m c) (aK m c) (aW m c) b g c1 l w = out (aX m c) (aD m c) (aA m c) (aK m c) (aW m c) b' g' c2 l' w' := by
  rw [Fin.ext hb, Fin.ext hg, Fin.ext hc, Fin.ext hl, Fin.ext hw]

theorem final : (dats m 0 c).arrAt 9 cfg0.N = G m c := by
  refine (dats m 0 c).arrAt_eq_of_covers 9 (G m c) (by decide +kernel) fun t hf y => ?_
  blk_simp
  rw [after0_9]
  idx_vars y
  have hN : t.val < 256 := t.isLt
  refine (outBlk m c t (⟨t.val / 128, by omega⟩ : Fin 2) (⟨t.val / 16 % 8, by omega⟩ : Fin 8) (⟨t.val % 16, by omega⟩ : Fin 16)
    (by show t.val = (t.val / 128 * 8 + t.val / 16 % 8) * 16 + t.val % 16; omega) y0 y1).trans ?_
  unfold G
  apply out_congr
  have h0 : y0.val < 512 := y0.isLt
  have h1 : y1.val < 256 := y1.isLt
  all_goals (blk_simp [idx t]; dsimp only; omega)

end Cert.KernelIdeal.Ssd

end
-- ==== Proof.SsdAgree.lean ====
/-
  The two results are one array: the kernel's result and the reference's, on the same arguments.
-/
module

public import proofs.«01_k».proof.Proof.SsdKernel
public import Idealize.ShloMosaic.Lib.Claim

@[expose] public section

set_option maxRecDepth 16384

noncomputable section

open Idealize.ShloMosaic Idealize.ShloMosaic.TcCoe Idealize.SL.Sem

namespace Cert.Ssd

/-- The reference's result is the mixer's output at every index. -/
theorem ref_eq (m : (ℓ : Loc Cert.KernelIdeal.nD Cert.KernelIdeal.τ Cert.KernelIdeal.sig) → Buf (Elt Ideal) ℓ) (c : Dev Cert.KernelIdeal.nD) :
    Cert.ReferenceIdeal.Step.R_main_v99
        (Cert.ReferenceIdeal.Ssd.iter (Cert.KernelIdeal.Ssd.aX m c) (Cert.KernelIdeal.Ssd.aD m c) (Cert.KernelIdeal.Ssd.aA m c) 128)
        (Cert.KernelIdeal.Ssd.aX m c) (Cert.KernelIdeal.Ssd.aD m c) (Cert.KernelIdeal.Ssd.aA m c) (Cert.KernelIdeal.Ssd.aK m c) (Cert.KernelIdeal.Ssd.aW m c)
      = Cert.KernelIdeal.Ssd.G m c := by
  funext y
  have h0 : (y 0).val < 16384 := (y 0).isLt
  have h1 : (y 1).val < 2048 := (y 1).isLt
  have e := Cert.ReferenceIdeal.Ssd.ref_val (Cert.KernelIdeal.Ssd.aX m c) (Cert.KernelIdeal.Ssd.aD m c) (Cert.KernelIdeal.Ssd.aA m c)
    (Cert.KernelIdeal.Ssd.aK m c) (Cert.KernelIdeal.Ssd.aW m c) ⟨(y 0).val / 8192, by omega⟩ ⟨(y 0).val % 8192 / 64, by omega⟩ ⟨(y 0).val % 64, by omega⟩
    ⟨(y 1).val / 256, by omega⟩ ⟨(y 1).val % 256, by omega⟩
  refine Eq.trans (congrArg _ ?_) e
  funext a
  fin_cases a
  · apply Fin.ext
    show (y 0).val = (y 0).val / 8192 * 8192 + (y 0).val % 8192 / 64 * 64 + (y 0).val % 64
    omega
  · apply Fin.ext
    show (y 1).val = (y 1).val / 256 * 256 + (y 1).val % 256
    omega

end Cert.Ssd

end
-- ==== Proof.OutProj.lean ====
/-
  The output projection: the kernel adds, for each block of the result, the products of the two mixers' outputs with their halves
  of the weight; the reference multiplies the joined outputs with the whole weight.
-/
module

public import proofs.«01_k».proof.Proof.Gen.Kernel4Ideal.Value
public import proofs.«01_k».proof.Proof.Gen.Reference4Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.OutProj

abbrev SX : Shape := ⟨_, ![16384, 4096]⟩
abbrev SY : Shape := ⟨_, ![16384, 2048]⟩
abbrev SW : Shape := ⟨_, ![1, 4096, 4096]⟩

/-- The residual plus the two halves' products, at row `i` and column `j`. -/
def out (x : FVec Ideal SX .f32) (yg ys : FVec Ideal SY .bf16) (w : FVec Ideal SW .f32) (i : Fin 16384) (j : Fin 4096) : EReal :=
  x (ix2 i j) + ((∑ k : Fin 2048, yg (ix2 i k) * w (ix3 0 (⟨k.val, by omega⟩ : Fin 4096) j))
    + ∑ k : Fin 2048, ys (ix2 i k) * w (ix3 0 (⟨2048 + k.val, by omega⟩ : Fin 4096) j))

theorem out_congr (x : FVec Ideal SX .f32) (yg ys : FVec Ideal SY .bf16) (w : FVec Ideal SW .f32) {i i' : Fin 16384} {j j' : Fin 4096}
    (hi : i.val = i'.val) (hj : j.val = j'.val) : out x yg ys w i j = out x yg ys w i' j' := by
  rw [Fin.ext hi, Fin.ext hj]

end Cert.OutProj

namespace Cert.Reference4Ideal.OutProj

open Cert.Reference4Ideal Cert.Reference4Ideal.Read Cert.OutProj

theorem ref_val (x : FVec Ideal SX .f32) (yg ys : FVec Ideal SY .bf16) (w : FVec Ideal SW .f32) (i : Fin 16384) (j : Fin 4096) :
    val_main_v5 (F := Ideal) x yg ys w (ix2 i j) = out x yg ys w i j := by
  pointwise [val_main_v5, val_main_v4, val_main_v3, val_main_v2, val_main_v1, val_main_v0]
  rfl

end Cert.Reference4Ideal.OutProj

namespace Cert.Kernel4Ideal.OutProj

open Cert.Kernel4Ideal Cert.Kernel4Ideal.Gen Cert.OutProj

variable (m : (ℓ : Loc nD τ sig) → Buf (Elt Ideal) ℓ) (c : Dev nD)

abbrev aX : FVec Ideal SX .f32 := m ((c.tc : Thread nD τ).loc main_arg0)
abbrev aG : FVec Ideal SY .bf16 := m ((c.tc : Thread nD τ).loc main_arg1)
abbrev aS : FVec Ideal SY .bf16 := m ((c.tc : Thread nD τ).loc main_arg2)
abbrev aW : FVec Ideal SW .f32 := m ((c.tc : Thread nD τ).loc main_arg3)

theorem idx : ∀ t : Fin cfg0.N,
    win0_0.index t = ![t.val / 4, t.val % 4] ∧ win0_1.index t = ![t.val / 4, 0] ∧ win0_2.index t = ![t.val / 4, 0]
    ∧ win0_3.index t = ![0, t.val % 4] ∧ win0_4.index t = ![1, t.val % 4] ∧ win0_5.index t = ![t.val / 4, t.val % 4] :=
  (by decide +kernel : ∀ t : Fin grid0.N, _)

/-- The array of the output projection. -/
def G : Vec Ideal S16384x4096 .f32 := fun y => out (aX m c) (aG m c) (aS m c) (aW m c) (y 0) (y 1)

theorem final : (dats m 0 c).arrAt 5 cfg0.N = G m c := by
  refine (dats m 0 c).arrAt_eq_of_covers 5 (G m c) (by decide +kernel) fun t hf y => ?_
  blk_simp
  rw [after0_5]
  frame_out
  unfold G out
  idx_vars y
  pointwise [k0_pay1]
  blk_point [iblk, idx t]

end Cert.Kernel4Ideal.OutProj

end
-- ==== Proof.FfnDown.lean ====
/-
  The down projection with the residual add and the last norm: the kernel adds the products of eleven blocks of 1024 columns one
  after the other and normalises the rows at the eleventh; the reference multiplies once.
-/
module

public import proofs.«01_k».proof.Proof.Gen.Kernel3Ideal.Value
public import proofs.«01_k».proof.Proof.Gen.Reference3Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.FfnDown

abbrev SA : Shape := ⟨_, ![16384, 11264]⟩
abbrev SW : Shape := ⟨_, ![11264, 4096]⟩
abbrev SH : Shape := ⟨_, ![16384, 4096]⟩
abbrev SN : Shape := ⟨_, ![4096]⟩

variable (a : FVec Ideal SA .bf16) (w : FVec Ideal SW .bf16) (h : FVec Ideal SH .f32) (nw : FVec Ideal SN .f32)

/-- A row's residual sum at column `j`. -/
def res (i : Fin 16384) (j : Fin 4096) : EReal := h (ix2 i j) + ∑ k : Fin 11264, a (ix2 i k) * w (ix2 k j)

/-- The root-mean-square norm of a row of 4096 numbers, times a weight. -/
def rms (r : Fin 4096 → EReal) (wj : EReal) (j : Fin 4096) : EReal :=
  r j * Ideal.rsqrt (Ideal.div (∑ k, r k * r k) (Ideal.ofBits .f32 0x45800000#32) + Ideal.ofBits .f32 0x358637BD#32) * wj

def out (i : Fin 16384) (j : Fin 4096) : EReal := rms (res a w h i) (nw (ix1 j)) j

/-- The product of block `s` of the columns. -/
def part (i : Fin 16384) (j : Fin 4096) (s : ℕ) : EReal :=
  if hs : s < 11 then ∑ k : Fin 1024, a (ix2 i (⟨s * 1024 + k.val, by omega⟩ : Fin 11264)) * w (ix2 (⟨s * 1024 + k.val, by omega⟩ : Fin 11264) j) else 0

/-- The residual plus the products of the first `n` blocks. -/
def acc (i : Fin 16384) (j : Fin 4096) : ℕ → EReal
  | 0 => h (ix2 i j)
  | n + 1 => acc i j n + part a w i j n

theorem acc_eq (i : Fin 16384) (j : Fin 4096) (n : ℕ) : acc a w h i j n = h (ix2 i j) + ∑ s ∈ Finset.range n, part a w i j s := by
  induction n with
  | zero => simp [acc]
  | succ n ih => rw [acc, ih, Finset.sum_range_succ, add_assoc]

theorem acc_last (i : Fin 16384) (j : Fin 4096) : acc a w h i j 11 = res a w h i j := by
  rw [acc_eq, res, Finset.sum_range]
  congr 1
  show (_ : EReal) = _
  calc ∑ s : Fin 11, part a w i j s.val
      = ∑ s : Fin 11, ∑ k : Fin 1024, a (ix2 i (⟨s.val * 1024 + k.val, by omega⟩ : Fin 11264)) * w (ix2 (⟨s.val * 1024 + k.val, by omega⟩ : Fin 11264) j) :=
        Finset.sum_congr rfl fun s _ => by rw [part, dif_pos s.isLt]
    _ = _ := by refine Fin.sum_mul_add_congr fun s k hl => ?_; rfl

end Cert.FfnDown

namespace Cert.Reference3Ideal.FfnDown

open Cert.Reference3Ideal Cert.Reference3Ideal.Read Cert.FfnDown

variable (a : FVec Ideal SA .bf16) (w : FVec Ideal SW .bf16) (h : FVec Ideal SH .f32) (nw : FVec Ideal SN .f32)

theorem res_val (i : Fin 16384) (j : Fin 4096) : val_main_v3 (F := Ideal) a w h (ix2 i j) = res a w h i j := by
  pointwise [val_main_v3, val_main_v2, val_main_v1, val_main_v0]
  rfl

theorem ref_val (i : Fin 16384) (j : Fin 4096) : val_main_v16 (F := Ideal) a w h nw (ix2 i j) = out a w h nw i j := by
  have e := fun k => res_val a w h i k
  pointwise [val_main_v16, val_main_v15, val_main_v14, val_main_v13, val_main_v12, val_main_v11, val_main_v10, val_main_v9, val_main_v8, val_main_v7,
    val_main_v6, val_main_v5, val_main_v4, val_main_cst, val_main_cst_0, val_main_cst_1]
  simp only [e]
  rfl

end Cert.Reference3Ideal.FfnDown

namespace Cert.Kernel3Ideal.FfnDown

open Cert.Kernel3Ideal Cert.Kernel3Ideal.Gen Cert.FfnDown

variable (m : (ℓ : Loc nD τ sig) → Buf (Elt Ideal) ℓ) (c : Dev nD)

abbrev aA : FVec Ideal SA .bf16 := m ((c.tc : Thread nD τ).loc main_arg0)
abbrev aW : FVec Ideal SW .bf16 := m ((c.tc : Thread nD τ).loc main_arg1)
abbrev aH : FVec Ideal SH .f32 := m ((c.tc : Thread nD τ).loc main_arg2)
abbrev aN : FVec Ideal SN .f32 := m ((c.tc : Thread nD τ).loc main_arg3)

theorem idx : ∀ t : Fin cfg0.N,
    win0_0.index t = ![t.val / 11, 0] ∧ win0_1.index t = ![t.val / 11, t.val % 11] ∧ win0_2.index t = ![t.val % 11, 0]
    ∧ win0_3.index t = ![0, 0] ∧ win0_4.index t = ![t.val / 11, 0] :=
  (by decide +kernel : ∀ t : Fin grid0.N, _)

abbrev row (q : Fin 32) (l : Fin 512) : Fin 16384 := ⟨q.val * 512 + l.val, by omega⟩

theorem pay1_at (acc : Vec Ideal S512x4096 .f32) (x1 : Vec Ideal S512x1024 .bf16) (x2 : Vec Ideal S1024x4096 .bf16) (l : Fin 512) (d : Fin 4096) :
    k0_pay1 (F := Ideal) acc x1 x2 (ix2 l d) = acc (ix2 l d) + ∑ k : Fin 1024, x1 (ix2 l k) * x2 (ix2 k d) := by
  pointwise [k0_pay1]

theorem pay2_at (x : Vec Ideal S512x4096 .f32) (x3 : Vec Ideal S1x4096 .f32) (l : Fin 512) (d : Fin 4096) :
    k0_pay2 (F := Ideal) x x3 (ix2 l d) = rms (fun k => x (ix2 l k)) (x3 (ix2 0 d)) d := by
  pointwise [k0_pay2]
  rfl

/-- The product that a point adds. -/
theorem part_at (t : Fin cfg0.N) (q : Fin 32) (s : ℕ) (hs : s < 11) (ht : t.val = q.val * 11 + s) (l : Fin 512) (d : Fin 4096) :
    (∑ k : Fin 1024, (show Vec Ideal S512x1024 .bf16 from iblk m c 1 t) (ix2 l k) * (show Vec Ideal S1024x4096 .bf16 from iblk m c 2 t) (ix2 k d))
      = part (aA m c) (aW m c) (row q l) d s := by
  rw [part, dif_pos hs]
  refine Finset.sum_congr rfl fun k _ => ?_
  blk_point [iblk, V, idx t]

/-- What the output's buffer holds after a point that is not the last of its rows. -/
theorem acc_at : ∀ (s : ℕ) (hs : s < 10) (q : Fin 32) (n : ℕ) (hn : n < cfg0.N) (e : n = q.val * 11 + s) (l : Fin 512) (d : Fin 4096),
    outsAt0 m c n hn (ix2 l d) = acc (aA m c) (aW m c) (aH m c) (row q l) d (s + 1)
  | 0, hs, q, n, hn, e, l, d => by
    rw [outsAt0_A m c ⟨n, hn⟩ (by show n % 11 = 0; omega) (by show ¬ n % 11 = 10; omega)]
    frame_out
    rw [pay1_at, part_at m c ⟨n, hn⟩ q 0 (by omega) e]
    unfold acc
    congr 1
    unfold acc
    have := idx ⟨n, hn⟩
    blk_point [iblk, V, idx ⟨n, hn⟩]
  | s + 1, hs, q, n, hn, e, l, d => by
    rw [outsAt0_B m c ⟨n, hn⟩ (by show ¬ n % 11 = 0; omega) (by show ¬ n % 11 = 10; omega)]
    frame_out
    rw [pay1_at, part_at m c ⟨n, hn⟩ q (s + 1) (by omega) e, acc]
    congr 1
    exact acc_at s (by omega) q (n - 1) _ (by omega) l d

/-- What the output's buffer holds at the last point of its rows. -/
theorem last_at (t : Fin cfg0.N) (q : Fin 32) (e : t.val = q.val * 11 + 10) (l : Fin 512) (d : Fin 4096) :
    outsAt0 m c t.val t.isLt (ix2 l d) = out (aA m c) (aW m c) (aH m c) (aN m c) (row q l) d := by
  rw [outsAt0_C m c t (by omega) (by omega)]
  frame_out
  rw [pay2_at, out]
  congr 1
  · funext k
    rw [pay1_at, part_at m c t q 10 (by omega) e, acc_at m c 9 (by omega) q (t.val - 1) _ (by omega) l k, ← acc_last]
    rfl
  · blk_point [iblk, idx t]

def G : Vec Ideal S16384x4096 .f32 := fun y => out (aA m c) (aW m c) (aH m c) (aN m c) (y 0) (y 1)

theorem out_congr (i i' : Fin 16384) (j j' : Fin 4096) (hi : i.val = i'.val) (hj : j.val = j'.val) :
    out (aA m c) (aW m c) (aH m c) (aN m c) i j = out (aA m c) (aW m c) (aH m c) (aN m c) i' j' := by
  rw [Fin.ext hi, Fin.ext hj]

theorem final : (dats m 0 c).arrAt 4 cfg0.N = G m c := by
  refine (dats m 0 c).arrAt_eq_of_covers 4 (G m c) (by decide +kernel) fun t hf y => ?_
  blk_simp
  rw [after0_4]
  idx_vars y
  have hN : t.val < 352 := t.isLt
  have hf' := (flush0_4 t).mp hf
  refine (last_at m c t ⟨t.val / 11, by omega⟩ (by show t.val = t.val / 11 * 11 + 10; omega) y0 y1).trans ?_
  unfold G
  apply out_congr
  have h0 : y0.val < 512 := y0.isLt
  have h1 : y1.val < 4096 := y1.isLt
  all_goals blk_simp [idx t]

end Cert.Kernel3Ideal.FfnDown

end
-- ==== Proof.FfnUp.lean ====
/-
  The gated up projection: the rms-normed rows, both products, the causal three-tap convolution of the gate's product and the gate.
  The reference convolves over the product padded by two rows in front of each sequence. The kernel keeps 528 normed rows per block
  of 512, the sixteen rows before the block first, which it sets to zero at the first block of a sequence.
-/
module

public import proofs.«01_k».proof.Proof.Gen.Kernel2Ideal.Value
public import proofs.«01_k».proof.Proof.Gen.Reference2Ideal.Read
public import Idealize.ShloMosaic.Lib.Pipeline.ValueKit
public import Idealize.ShloMosaic.Lib.Pointwise
public import Idealize.ShloMosaic.Lib.WordCmp
public import Idealize.ShloMosaic.Lib.Claim

@[expose] public section

set_option maxRecDepth 16384

noncomputable section

open Idealize.ShloMosaic Idealize.ShloMosaic.TcCoe Idealize.SL.Sem

namespace Cert.FfnUp

abbrev SH : Shape := ⟨_, ![16384, 4096]⟩
abbrev SN : Shape := ⟨_, ![1, 4096]⟩
abbrev SW : Shape := ⟨_, ![4096, 11264]⟩
abbrev SC : Shape := ⟨_, ![3, 11264]⟩
abbrev SB : Shape := ⟨_, ![1, 11264]⟩

variable (h : FVec Ideal SH .f32) (nw : FVec Ideal SN .f32) (wg wu : FVec Ideal SW .bf16) (cw : FVec Ideal SC .f32) (cb : FVec Ideal SB .f32)

/-- The root-mean-square norm of a row of 4096 numbers, times a weight. -/
def rms (r : Fin 4096 → EReal) (wj : EReal) (j : Fin 4096) : EReal :=
  r j * Ideal.rsqrt (Ideal.div (∑ k, r k * r k) (Ideal.ofBits .f32 0x45800000#32) + Ideal.ofBits .f32 0x358637BD#32) * wj

def hn (i : Fin 16384) (k : Fin 4096) : EReal := rms (fun k => h (ix2 i k)) (nw (ix2 0 k)) k

abbrev rowOf (b : Fin 2) (t : Fin 8192) : Fin 16384 := ⟨b.val * 8192 + t.val, by omega⟩

/-- The gate's product at row `s` of the sequence padded by two rows in front. -/
def gp (b : Fin 2) (s : Fin 8194) (j : Fin 11264) : EReal :=
  if hs : 2 ≤ s.val then ∑ k : Fin 4096, hn h nw (rowOf b ⟨s.val - 2, by omega⟩) k * wg (ix2 k j) else 0

/-- The three taps over the padded product, and the bias. -/
def conv (b : Fin 2) (t : Fin 8192) (j : Fin 11264) : EReal :=
  cw (ix2 0 j) * gp h nw wg b ⟨t.val, by omega⟩ j + cw (ix2 1 j) * gp h nw wg b ⟨1 + t.val, by omega⟩ j
    + cw (ix2 2 j) * gp h nw wg b ⟨2 + t.val, by omega⟩ j + cb (ix2 0 j)

/-- `x` times its logistic. -/
def silu (x : EReal) : EReal := x * Ideal.div 1 (1 + Ideal.exp (-x))

def out (b : Fin 2) (t : Fin 8192) (j : Fin 11264) : EReal :=
  silu (conv h nw wg cw cb b t j) * ∑ k : Fin 4096, hn h nw (rowOf b t) k * wu (ix2 k j)

end Cert.FfnUp

namespace Cert.Reference2Ideal.FfnUp

open Cert.Reference2Ideal Cert.Reference2Ideal.Read Cert.FfnUp

variable (h : FVec Ideal SH .f32) (nw : FVec Ideal SN .f32) (wg wu : FVec Ideal SW .bf16) (cw : FVec Ideal SC .f32) (cb : FVec Ideal SB .f32)

theorem hn_val (b : Fin 2) (t : Fin 8192) (k : Fin 4096) : val_main_v14 (F := Ideal) h nw (ix3 b t k) = hn h nw (rowOf b t) k := by
  pointwise [val_main_v14, val_main_v13, val_main_v12, val_main_v11, val_main_v10, val_main_v9, val_main_v8, val_main_v7, val_main_v6, val_main_cst_1,
    val_main_v5, val_main_v4, val_main_cst_0, val_main_v3, val_main_v2, val_main_cst, val_main_v1, val_main_v0]
  rfl

theorem gate_val (b : Fin 2) (t : Fin 8192) (j : Fin 11264) :
    val_main_v16 (F := Ideal) h nw wg (ix3 b t j) = ∑ k : Fin 4096, hn h nw (rowOf b t) k * wg (ix2 k j) := by
  have e := fun k => hn_val h nw b t k
  pointwise [val_main_v16, val_main_v15]
  simp only [e]

theorem up_val (b : Fin 2) (t : Fin 8192) (j : Fin 11264) :
    val_main_v44 (F := Ideal) h nw wu (ix3 b t j) = ∑ k : Fin 4096, hn h nw (rowOf b t) k * wu (ix2 k j) := by
  have e := fun k => hn_val h nw b t k
  pointwise [val_main_v44, val_main_v43]
  simp only [e]

theorem pad_val (b : Fin 2) (s : Fin 8194) (j : Fin 11264) : val_main_v17 (F := Ideal) h nw wg (ix3 b s j) = gp h nw wg b s j := by
  unfold gp
  by_cases hs : 2 ≤ s.val
  · rw [dif_pos hs, ← gate_val]
    pointwise [val_main_v17]
    rw [dif_pos (by omega)]
  · rw [dif_neg hs]
    pointwise [val_main_v17, val_main_call0_v0, val_main_c]
    rw [dif_neg (by omega)]
    show (((0#32 : BitVec 32).toInt : ℝ) : EReal) = 0
    simp

theorem conv_val (b : Fin 2) (t : Fin 8192) (j : Fin 11264) : val_main_v41 (F := Ideal) h nw wg cw cb (ix3 b t j) = conv h nw wg cw cb b t j := by
  have e := fun s => pad_val h nw wg b s j
  pointwise [val_main_v41, val_main_v40, val_main_v39, val_main_v38, val_main_v37, val_main_v36, val_main_v35, val_main_v34, val_main_v33, val_main_v32,
    val_main_v31, val_main_v30, val_main_v29, val_main_v28, val_main_v27, val_main_v26, val_main_v25, val_main_v24, val_main_v23, val_main_v22, val_main_v21,
    val_main_v20, val_main_v19, val_main_v18]
  simp only [e]
  rfl

theorem ref_val (b : Fin 2) (t : Fin 8192) (j : Fin 11264) :
    val_main_v47 (F := Ideal) h nw wg wu cw cb (ix2 (rowOf b t) j) = out h nw wg wu cw cb b t j := by
  have e := conv_val h nw wg cw cb b t j
  have e' := up_val h nw wu b t j
  have s : val_main_v46 (F := Ideal) h nw wg wu cw cb (ix2 (rowOf b t) j) = val_main_v45 (F := Ideal) h nw wg wu cw cb (ix3 b t j) := by
    pointwise [val_main_v46]
    blk_ext
  pointwise [val_main_v47]
  rw [s]
  pointwise [val_main_v45, val_main_v42, val_main_call1_v5, val_main_call1_v4, val_main_call1_cst_0, val_main_call1_v3, val_main_call1_v2, val_main_call1_cst,
    val_main_call1_v1, val_main_call1_v0]
  rw [e, e']
  rfl

end Cert.Reference2Ideal.FfnUp

namespace Cert.Kernel2Ideal.FfnUp

open Cert.Kernel2Ideal Cert.Kernel2Ideal.Gen Cert.FfnUp

variable (m : (ℓ : Loc nD τ sig) → Buf (Elt Ideal) ℓ) (c : Dev nD)

abbrev aH : FVec Ideal SH .f32 := m ((c.tc : Thread nD τ).loc main_arg0)
abbrev aN : FVec Ideal SN .f32 := m ((c.tc : Thread nD τ).loc main_arg1)
abbrev aG : FVec Ideal SW .bf16 := m ((c.tc : Thread nD τ).loc main_arg2)
abbrev aU : FVec Ideal SW .bf16 := m ((c.tc : Thread nD τ).loc main_arg3)
abbrev aC : FVec Ideal SC .f32 := m ((c.tc : Thread nD τ).loc main_arg4)
abbrev aB : FVec Ideal SB .f32 := m ((c.tc : Thread nD τ).loc main_arg5)

theorem idx : ∀ t : Fin cfg0.N,
    win0_0.index t = ![t.val / 22, 0] ∧ win0_1.index t = ![t.val / 22 * 32 - 1, 0] ∧ win0_2.index t = ![0, 0]
    ∧ win0_3.index t = ![0, t.val % 22] ∧ win0_4.index t = ![0, t.val % 22] ∧ win0_5.index t = ![0, t.val % 22]
    ∧ win0_6.index t = ![0, t.val % 22] ∧ win0_7.index t = ![t.val / 22, t.val % 22] :=
  (by decide +kernel : ∀ t : Fin grid0.N, _)

theorem coord0 : ∀ t : Fin cfg0.N, (grid0.coords t 0).val = t.val / 22 := (by decide +kernel : ∀ t : Fin grid0.N, _)

/-- The normed rows kept for block `q` of 512 rows: sixteen rows before it, then its own. -/
def scr (q : Fin 32) (r : Fin 528) (k : Fin 4096) : EReal :=
  if q.val % 16 = 0 ∧ r.val < 16 then 0 else hn (aH m c) (aN m c) ⟨q.val * 512 + r.val - 16, by omega⟩ k

theorem pay4_at (x2 : Vec Ideal S1x4096 .f32) (x0 : Vec Ideal S512x4096 .f32) (l : Fin 512) (k : Fin 4096) :
    k0_pay4 (F := Ideal) (k0_pay1 x2) x0 (k0_pay3 x0) (FloatOps.ofBits FTy.f32 1166016512#32) (ix2 l k)
      = rms (fun k => x0 (ix2 l k)) (x2 (ix2 0 k)) k := by
  pointwise [k0_pay4, k0_pay1, k0_pay3]
  rfl

/-- Whether block `a` is the first of its sequence, as the program computes it. -/
def first (a : BitVec 32) : BitVec 1 :=
  let n : BitVec 32 := Scalar.select (Scalar.cmpi .eq 16#32 0#32) 1#32 16#32
  let r := Scalar.remsi a n
  Scalar.cmpi .eq (Scalar.select (Scalar.andi (Scalar.xori (Scalar.cmpi .slt r 0#32) (Scalar.cmpi .slt n 0#32)) (Scalar.cmpi .ne r 0#32)) (Scalar.addi r n) r) 0#32

theorem first_eq : ∀ q : Fin 32, first (BitVec.ofNat 32 q.val) = if q.val % 16 = 0 then 1#1 else 0#1 := by decide +kernel

theorem pay2_at (q : Fin 32) (x2 : Vec Ideal S1x4096 .f32) (x1 : Vec Ideal S16x4096 .f32) (l : Fin 16) (k : Fin 4096) :
    k0_pay2 (F := Ideal) (BitVec.ofNat 32 q.val) x2 x1 (ix2 l k)
      = if q.val % 16 = 0 then 0 else rms (fun k => x1 (ix2 l k)) (x2 (ix2 0 k)) k := by
  pointwise [k0_pay2, k0_pay1]
  have e := first_eq q
  unfold first at e
  dsimp only at e
  rw [e]
  by_cases h0 : q.val % 16 = 0
  · rw [if_pos h0, if_pos h0]; rfl
  · rw [if_neg h0, if_neg h0]; rfl

theorem pay5_at (v3 : Vec Ideal S528x4096 .bf16) (v4 : Vec Ideal S4096x512 .bf16) (v6 : Vec Ideal S512x4096 .bf16) (v7 : Vec Ideal S4096x512 .bf16)
    (v9 : Vec Ideal S3x512 .f32) (v10 : Vec Ideal S1x512 .f32) (l : Fin 512) (j : Fin 512) :
    k0_pay5 (F := Ideal) v3 v4 v6 v7 v9 v10 (ix2 l j)
      = silu (v10 (ix2 0 j) + v9 (ix2 2 j) * (∑ k : Fin 4096, v3 (ix2 ⟨16 + l.val, by omega⟩ k) * v4 (ix2 k j))
          + v9 (ix2 0 j) * (∑ k : Fin 4096, v3 (ix2 ⟨14 + l.val, by omega⟩ k) * v4 (ix2 k j))
          + v9 (ix2 1 j) * (∑ k : Fin 4096, v3 (ix2 ⟨15 + l.val, by omega⟩ k) * v4 (ix2 k j)))
        * ∑ k : Fin 4096, v6 (ix2 l k) * v7 (ix2 k j) := by
  pointwise [k0_pay5]
  rw [zero_sub]
  rfl

/-- A row of the block's own, as the point reads it. -/
theorem own_at (t : Fin cfg0.N) (q : Fin 32) (ht : t.val / 22 = q.val) (l : Fin 512) (k : Fin 4096) :
    rms (fun k => (show Vec Ideal S512x4096 .f32 from iblk m c 0 t) (ix2 l k)) ((show Vec Ideal S1x4096 .f32 from iblk m c 2 t) (ix2 0 k)) k
      = scr m c q ⟨16 + l.val, by omega⟩ k := by
  rw [scr, if_neg (by show ¬ (_ ∧ 16 + l.val < 16); omega), hn]
  congr 1
  · funext k
    blk_point [iblk, V, idx t]
  · blk_point [iblk, idx t]

/-- A row before the block, as the point reads it. -/
theorem halo_at (t : Fin cfg0.N) (q : Fin 32) (ht : t.val / 22 = q.val) (l : Fin 16) (k : Fin 4096) :
    (if q.val % 16 = 0 then 0 else rms (fun k => (show Vec Ideal S16x4096 .f32 from iblk m c 1 t) (ix2 l k)) ((show Vec Ideal S1x4096 .f32 from iblk m c 2 t) (ix2 0 k)) k)
      = scr m c q ⟨l.val, by omega⟩ k := by
  by_cases h0 : q.val % 16 = 0
  · rw [if_pos h0, scr, if_pos ⟨h0, l.isLt⟩]
  · rw [if_neg h0, scr, if_neg (fun h => h0 h.1), hn]
    congr 1
    · funext k
      blk_point [iblk, V, idx t]
    · blk_point [iblk, idx t]

/-- What the carried rows are after the point that writes them. -/
theorem fill_at (t : Fin cfg0.N) (q : Fin 32) (h0 : t.val % 22 = 0) (ht : t.val / 22 = q.val) (r : Fin 528) (k : Fin 4096) :
    (outsAt0 m c t.val t.isLt).2 (ix2 r k) = scr m c q r k := by
  have e := coord0 t
  rw [outsAt0_A m c t h0]
  dsimp only
  frame_out
  canon_tiles x hx using View.cover_of_tiledBy _ ![16, 4096] (by sl_kernel_rfl) _
  · idx_vars x
    change r.val = 16 + x0.val at hx0
    change k.val = x1.val at hx1
    refine (pay4_at _ _ x0 x1).trans ((own_at m c t q ht x0 x1).trans ?_)
    rw [show (⟨16 + x0.val, by omega⟩ : Fin 528) = r from Fin.ext hx0.symm, show x1 = k from Fin.ext hx1.symm]
  · idx_vars x
    change r.val = x0.val at hx0
    change k.val = x1.val at hx1
    rw [e, ht]
    refine (pay2_at q _ _ x0 x1).trans ((halo_at m c t q ht x0 x1).trans ?_)
    rw [show (⟨x0.val, by omega⟩ : Fin 528) = r from Fin.ext hx0.symm, show x1 = k from Fin.ext hx1.symm]

/-- The carried rows after any point of the block. -/
theorem rows_at : ∀ (n : ℕ) (hn : n < cfg0.N) (q : Fin 32) (e : n / 22 = q.val) (r : Fin 528) (k : Fin 4096),
    (outsAt0 m c n hn).2 (ix2 r k) = scr m c q r k
  | n, hn, q, e, r, k => by
    by_cases h0 : n % 22 = 0
    · exact fill_at m c ⟨n, hn⟩ q h0 e r k
    · rw [outsAt0_B m c ⟨n, hn⟩ h0]
      exact rows_at (n - 1) _ q (by omega) r k

/-- The gate's product over the carried rows is the padded product, at each of the three taps. -/
theorem tap_at (q : Fin 32) (l : Fin 512) (e : ℕ) (he : e < 3) (j : Fin 11264) :
    (∑ k : Fin 4096, scr m c q ⟨14 + e + l.val, by omega⟩ k * aG m c (ix2 k j))
      = gp (aH m c) (aN m c) (aG m c) ⟨q.val / 16, by omega⟩ ⟨e + (q.val % 16 * 512 + l.val), by omega⟩ j := by
  unfold gp
  by_cases hs : 2 ≤ e + (q.val % 16 * 512 + l.val)
  · rw [dif_pos hs]
    refine Finset.sum_congr rfl fun k _ => ?_
    rw [scr, if_neg (by show ¬ (_ ∧ 14 + e + l.val < 16); omega)]
    congr 2
    ext
    show q.val * 512 + (14 + e + l.val) - 16 = q.val / 16 * 8192 + (e + (q.val % 16 * 512 + l.val) - 2)
    omega
  · rw [dif_neg hs]
    refine Finset.sum_eq_zero fun k _ => ?_
    rw [scr, if_pos ⟨by omega, by show 14 + e + l.val < 16; omega⟩, zero_mul]

theorem up_at (q : Fin 32) (l : Fin 512) (k : Fin 4096) :
    scr m c q ⟨16 + l.val, by omega⟩ k = hn (aH m c) (aN m c) (rowOf ⟨q.val / 16, by omega⟩ ⟨q.val % 16 * 512 + l.val, by omega⟩) k := by
  rw [scr, if_neg (by show ¬ (_ ∧ 16 + l.val < 16); omega)]
  congr 1
  ext
  show q.val * 512 + (16 + l.val) - 16 = q.val / 16 * 8192 + (q.val % 16 * 512 + l.val)
  omega

/-- A point's output, from the carried rows. -/
theorem point_at (t : Fin cfg0.N) (q : Fin 32) (g : Fin 22) (hq : t.val / 22 = q.val) (hg : t.val % 22 = g.val)
    (v3 : Vec Ideal S528x4096 .bf16) (v6 : Vec Ideal S512x4096 .bf16) (h3 : ∀ r k, v3 (ix2 r k) = scr m c q r k)
    (h6 : ∀ (l : Fin 512) k, v6 (ix2 l k) = scr m c q ⟨16 + l.val, by omega⟩ k) (l j : Fin 512) :
    k0_pay5 (F := Ideal) v3 (iblk m c 3 t) v6 (iblk m c 4 t) (iblk m c 5 t) (iblk m c 6 t) (ix2 l j)
      = out (aH m c) (aN m c) (aG m c) (aU m c) (aC m c) (aB m c) ⟨q.val / 16, by omega⟩ ⟨q.val % 16 * 512 + l.val, by omega⟩
          ⟨g.val * 512 + j.val, by omega⟩ := by
  have eg : ∀ k : Fin 4096, (show Vec Ideal S4096x512 .bf16 from iblk m c 3 t) (ix2 k j) = aG m c (ix2 k (⟨g.val * 512 + j.val, by omega⟩ : Fin 11264)) := fun k => by
    blk_point [iblk, idx t]
  have eu : ∀ k : Fin 4096, (show Vec Ideal S4096x512 .bf16 from iblk m c 4 t) (ix2 k j) = aU m c (ix2 k (⟨g.val * 512 + j.val, by omega⟩ : Fin 11264)) := fun k => by
    blk_point [iblk, idx t]
  have ec : ∀ k : Fin 3, (show Vec Ideal S3x512 .f32 from iblk m c 5 t) (ix2 k j) = aC m c (ix2 k (⟨g.val * 512 + j.val, by omega⟩ : Fin 11264)) := fun k => by
    blk_point [iblk, idx t]
  have eb : (show Vec Ideal S1x512 .f32 from iblk m c 6 t) (ix2 0 j) = aB m c (ix2 0 (⟨g.val * 512 + j.val, by omega⟩ : Fin 11264)) := by
    blk_point [iblk, idx t]
  dsimp only at eg eu ec eb
  rw [pay5_at]
  simp only [h3, h6, eg, eu, ec, eb]
  have t0 := tap_at m c q l 0 (by omega) (⟨g.val * 512 + j.val, by omega⟩ : Fin 11264)
  have t1 := tap_at m c q l 1 (by omega) (⟨g.val * 512 + j.val, by omega⟩ : Fin 11264)
  have t2 := tap_at m c q l 2 (by omega) (⟨g.val * 512 + j.val, by omega⟩ : Fin 11264)
  simp only [Nat.reduceAdd, Nat.add_zero, Nat.zero_add] at t0 t1 t2
  rw [t0, t1, t2]
  simp only [up_at]
  unfold out conv
  congr 2
  abel

theorem idx_all (r : Fin 528) (k : Fin 4096) : (Rect.unit (s := S528x4096) ![0, 0] ![528, 4096] inb_S528x4096_S528x4096_0_0).idx (ix2 r k) = ix2 r k :=
  funext fun a => Fin.ext (by
    rw [Rect.idx_unit_val]
    match a with
    | 0 => exact Nat.zero_add _
    | 1 => exact Nat.zero_add _)

theorem idx_own (l : Fin 512) (k : Fin 4096) :
    (Rect.unit (s := S528x4096) ![16, 0] ![512, 4096] inb_S528x4096_S512x4096_16_0).idx (ix2 l k) = ix2 (⟨16 + l.val, by omega⟩ : Fin 528) k :=
  funext fun a => Fin.ext (by
    rw [Rect.idx_unit_val]
    match a with
    | 0 => rfl
    | 1 => exact Nat.zero_add _)

/-- What a point leaves in its output block. -/
theorem outBlk (t : Fin cfg0.N) (q : Fin 32) (g : Fin 22) (hq : t.val / 22 = q.val) (hg : t.val % 22 = g.val) (l j : Fin 512) :
    (outsAt0 m c t.val t.isLt).1 (ix2 l j)
      = out (aH m c) (aN m c) (aG m c) (aU m c) (aC m c) (aB m c) ⟨q.val / 16, by omega⟩ ⟨q.val % 16 * 512 + l.val, by omega⟩
          ⟨g.val * 512 + j.val, by omega⟩ := by
  by_cases h0 : t.val % 22 = 0
  · have hs := fill_at m c t q h0 hq
    rw [outsAt0_A m c t h0] at hs ⊢
    dsimp only at hs ⊢
    unfold sout0_A_0 at hs
    frame_out at hs
    frame_out
    simp only [View.readCov_eq_canon']
    refine point_at m c t q g hq hg _ _ (fun r k => ?_) (fun l k => ?_) l j
    · exact (congrArg _ (idx_all r k)).trans (hs r k)
    · exact (congrArg _ (idx_own l k)).trans (hs _ k)
  · have hs := rows_at m c (t.val - 1) (by have := t.isLt; omega) q (by omega)
    rw [outsAt0_B m c t h0]
    dsimp only
    frame_out
    have e : ∀ r k, View.read (Elt Ideal) (View.whole cc0_scratch0) ((Memref.isWhole_whole cc0_scratch0).unread (outsAt0 m c (t.val - 1) (by have := t.isLt; omega)).2) (ix2 r k)
        = scr m c q r k := fun r k => (congrFun ((Memref.isWhole_whole cc0_scratch0).read_unread (outsAt0 m c (t.val - 1) (by have := t.isLt; omega)).2) (ix2 r k)).trans (hs r k)
    refine point_at m c t q g hq hg _ _ e (fun l k => ?_) l j
    exact (congrArg _ (idx_own l k)).trans (e _ k)

def G : Vec Ideal S16384x11264 .bf16 := fun y =>
  out (aH m c) (aN m c) (aG m c) (aU m c) (aC m c) (aB m c)
    (⟨(y 0).val / 8192, by have := (y 0).isLt; change (y 0).val < 16384 at this; omega⟩ : Fin 2) (⟨(y 0).val % 8192, by omega⟩ : Fin 8192) (y 1)

theorem out_congr (b b' : Fin 2) (s s' : Fin 8192) (j j' : Fin 11264) (hb : b.val = b'.val) (hs : s.val = s'.val) (hj : j.val = j'.val) :
    out (aH m c) (aN m c) (aG m c) (aU m c) (aC m c) (aB m c) b s j = out (aH m c) (aN m c) (aG m c) (aU m c) (aC m c) (aB m c) b' s' j' := by
  rw [Fin.ext hb, Fin.ext hs, Fin.ext hj]

theorem final : (dats m 0 c).arrAt 7 cfg0.N = G m c := by
  refine (dats m 0 c).arrAt_eq_of_covers 7 (G m c) (by decide +kernel) fun t hf y => ?_
  blk_simp
  rw [after0_7]
  idx_vars y
  have hN : t.val < 704 := t.isLt
  refine (outBlk m c t (⟨t.val / 22, by omega⟩ : Fin 32) (⟨t.val % 22, by omega⟩ : Fin 22) rfl rfl y0 y1).trans ?_
  unfold G
  apply out_congr
  have h0 : y0.val < 512 := y0.isLt
  have h1 : y1.val < 512 := y1.isLt
  all_goals (blk_simp [idx t]; try (dsimp only; omega))

end Cert.Kernel2Ideal.FfnUp

end
-- ==== Proof.InProjFrame.lean ====
/-
  The frame of the input projection's call: it runs to the end from any memory, leaves its arguments as they were and every counter at zero.
  Nothing is said here of what it writes. Its second output is stored at the first of the fourteen points of a block only, so at the other points
  the body hands that buffer back with whatever it holds.
-/
module

public import proofs.«01_k».proof.Proof.Gen.Kernel5.Frame
public import proofs.«01_k».proof.Proof.Gen.Kernel5.Skeleton
public import Idealize.ShloMosaic.Lib.Pipeline.FrameBody
public import Idealize.ShloMosaic.Lib.Claim

@[expose] public section

set_option maxRecDepth 16384

noncomputable section

namespace Cert.Kernel5.InProj

open Cert.Kernel5 Cert.Kernel5.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body runs at any coordinates, whichever of its three conditions hold there; inputs are handed back as they were. -/
theorem run (c : Dev nD) (i : grid0.Coords) (arg2 : Memref sig .tc .vmem S512x4096 .f32) (harg2 : arg2.IsWhole) (arg3 : Memref sig .tc .vmem S16x4096 .f32) (harg3 : arg3.IsWhole) (arg4 : Memref sig .tc .vmem S1x4096 .f32) (harg4 : arg4.IsWhole) (arg5 : Memref sig .tc .vmem S1024x4096 .bf16) (harg5 : arg5.IsWhole) (arg6 : Memref sig .tc .vmem S128x4096 .bf16) (harg6 : arg6.IsWhole) (arg7 : Memref sig .tc .vmem S4x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x128 .f32) (harg10 : arg10.IsWhole) (arg11 : Memref sig .tc .vmem S528x4096 .bf16) (harg11 : arg11.IsWhole)
    (x0 : Vec F S512x4096 .f32) (x1 : Vec F S16x4096 .f32) (x2 : Vec F S1x4096 .f32) (x3 : Vec F S1024x4096 .bf16) (x4 : Vec F S128x4096 .bf16) (x5 : Vec F S4x1024 .f32) (x6 : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  by_cases hc1 : k0_cond1 i = 1#1 <;> by_cases hc2 : k0_cond2 i = 1#1 <;> by_cases hc3 : k0_cond3 i = 1#1
  all_goals
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    iexists _, _; isplitr; swap; · iexact HS
    ipureintro; rfl

abbrev buf0 (t : Fin cfg0.N) : Memref sig .tc .vmem S512x4096 .f32 := win0_0.stage (cfg0.slots t 0)
abbrev buf1 (t : Fin cfg0.N) : Memref sig .tc .vmem S16x4096 .f32 := win0_1.stage (cfg0.slots t 1)
abbrev buf2 (t : Fin cfg0.N) : Memref sig .tc .vmem S1x4096 .f32 := win0_2.stage (cfg0.slots t 2)
abbrev buf3 (t : Fin cfg0.N) : Memref sig .tc .vmem S1024x4096 .bf16 := win0_3.stage (cfg0.slots t 3)
abbrev buf4 (t : Fin cfg0.N) : Memref sig .tc .vmem S128x4096 .bf16 := win0_4.stage (cfg0.slots t 4)
abbrev buf5 (t : Fin cfg0.N) : Memref sig .tc .vmem S4x1024 .f32 := win0_5.stage (cfg0.slots t 5)
abbrev buf6 (t : Fin cfg0.N) : Memref sig .tc .vmem S1x1024 .f32 := win0_6.stage (cfg0.slots t 6)
abbrev buf7 (t : Fin cfg0.N) : Memref sig .tc .vmem S512x1024 .f32 := win0_7.stage (cfg0.slots t 7)
abbrev buf8 (t : Fin cfg0.N) : Memref sig .tc .vmem S512x128 .f32 := win0_8.stage (cfg0.slots t 8)
abbrev scr : Memref sig .tc .vmem S528x4096 .bf16 := Memref.whole cc0_scratch0

theorem inv_eq (c : Dev nD) :
    (Pipeline.ΦA spec0 c : sProp 𝕄) = iprop(iprop(∃ d, owns (c : Thread nD τ) scr fullShare d) ∗ (∃ r, prngReg c r)) := by
  unfold Pipeline.ΦA; rw [scopedRest0_eq]; simp only [scr, owns_whole]; try rfl

/-- Both outputs are left unnamed. -/
def free : Fin 9 → Bool := fun w => w.val == 7 || w.val == 8

/-- Arrays as the region finds them, every input buffer at its block after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q w := Pipeline.shareOf spec0 w
  owed _ := 0

theorem arr_eq (c : Dev nD) (w : Fin cfg0.W) : (dats m 0 c).A w = V m c (Pipeline.arrRef spec0 w) := by dsimp only [dats]

theorem before0 (c : Dev nD) (t : Fin cfg0.N) (d) : (dats m 0 c).before 0 t d = iblk m c 0 t :=
  before0_0_of m (dats m 0 c) (arr_eq m c 0) (fun t => by dsimp only [dats]) t d
theorem before1 (c : Dev nD) (t : Fin cfg0.N) (d) : (dats m 0 c).before 1 t d = iblk m c 1 t :=
  before0_1_of m (dats m 0 c) (arr_eq m c 1) (fun t => by dsimp only [dats]) t d
theorem before2 (c : Dev nD) (t : Fin cfg0.N) (d) : (dats m 0 c).before 2 t d = iblk m c 2 t :=
  before0_2_of m (dats m 0 c) (arr_eq m c 2) (fun t => by dsimp only [dats]) t d
theorem before3 (c : Dev nD) (t : Fin cfg0.N) (d) : (dats m 0 c).before 3 t d = iblk m c 3 t :=
  before0_3_of m (dats m 0 c) (arr_eq m c 3) (fun t => by dsimp only [dats]) t d
theorem before4 (c : Dev nD) (t : Fin cfg0.N) (d) : (dats m 0 c).before 4 t d = iblk m c 4 t :=
  before0_4_of m (dats m 0 c) (arr_eq m c 4) (fun t => by dsimp only [dats]) t d
theorem before5 (c : Dev nD) (t : Fin cfg0.N) (d) : (dats m 0 c).before 5 t d = iblk m c 5 t :=
  before0_5_of m (dats m 0 c) (arr_eq m c 5) (fun t => by dsimp only [dats]) t d
theorem before6 (c : Dev nD) (t : Fin cfg0.N) (d) : (dats m 0 c).before 6 t d = iblk m c 6 t :=
  before0_6_of m (dats m 0 c) (arr_eq m c 6) (fun t => by dsimp only [dats]) t d
theorem leaves0 (c : Dev nD) (t : Fin cfg0.N) : (dats m 0 c).leavesExact 0 t = owns (c : Thread nD τ) (buf0 t) fullShare (iblk m c 0 t) := by
  unfold Dat.leavesExact; rw [show cfg0.idle 0 (grid0.coords t) = false from rfl]; dsimp only [dats]
theorem leaves1 (c : Dev nD) (t : Fin cfg0.N) : (dats m 0 c).leavesExact 1 t = owns (c : Thread nD τ) (buf1 t) fullShare (iblk m c 1 t) := by
  unfold Dat.leavesExact; rw [show cfg0.idle 1 (grid0.coords t) = false from rfl]; dsimp only [dats]
theorem leaves2 (c : Dev nD) (t : Fin cfg0.N) : (dats m 0 c).leavesExact 2 t = owns (c : Thread nD τ) (buf2 t) fullShare (iblk m c 2 t) := by
  unfold Dat.leavesExact; rw [show cfg0.idle 2 (grid0.coords t) = false from rfl]; dsimp only [dats]
theorem leaves3 (c : Dev nD) (t : Fin cfg0.N) : (dats m 0 c).leavesExact 3 t = owns (c : Thread nD τ) (buf3 t) fullShare (iblk m c 3 t) := by
  unfold Dat.leavesExact; rw [show cfg0.idle 3 (grid0.coords t) = false from rfl]; dsimp only [dats]
theorem leaves4 (c : Dev nD) (t : Fin cfg0.N) : (dats m 0 c).leavesExact 4 t = owns (c : Thread nD τ) (buf4 t) fullShare (iblk m c 4 t) := by
  unfold Dat.leavesExact; rw [show cfg0.idle 4 (grid0.coords t) = false from rfl]; dsimp only [dats]
theorem leaves5 (c : Dev nD) (t : Fin cfg0.N) : (dats m 0 c).leavesExact 5 t = owns (c : Thread nD τ) (buf5 t) fullShare (iblk m c 5 t) := by
  unfold Dat.leavesExact; rw [show cfg0.idle 5 (grid0.coords t) = false from rfl]; dsimp only [dats]
theorem leaves6 (c : Dev nD) (t : Fin cfg0.N) : (dats m 0 c).leavesExact 6 t = owns (c : Thread nD τ) (buf6 t) fullShare (iblk m c 6 t) := by
  unfold Dat.leavesExact; rw [show cfg0.idle 6 (grid0.coords t) = false from rfl]; dsimp only [dats]

def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare d) ∗ (∃ d, owns (c : Thread nD τ) (buf8 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (buf7 t) fullShare d) ∗ (∃ d, owns (c : Thread nD τ) (buf8 t) fullShare d))

set_option maxHeartbeats 2400000 in
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [leaves0, leaves1, leaves2, leaves3, leaves4, leaves5, leaves6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, inv_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, H7, H8⟩
  iapply (run c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, H8, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_row (t : Fin cfg0.N) : defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ free := fun t => by
  rw [bigSep_W0, bigSep_W0, body_row]
  exact triple_restated (body_at m c t) rfl .rfl fun _ => .rfl

set_option backward.isDefEq.respectTransparency.types false in
theorem run_quiescent : θ_run defs (onTc (τ := τ) (main (F := F))) (s₀ m ρ)
    (fun r => (Pipeline.RDat.FramePost (cfgs 0) (fun c => (dats m 0 c).toRForget free) (V m)) r ∧ r.2.sem = fun _ => 0) :=
  Pipeline.θ_run_frame_forget_shared (Q' := _) cfgs (dats m) (0 : Fin 1) launch₀0 defs₀ Variants.none free m ρ main
    (hbody := fun c => (body_ok m c).loose) (hq := fun _ _ _ => rfl)
    (howed := fun _ _ => rfl) (V := V m) (hmain := hmain m Variants.none) (hA := arr_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(Pipeline.RDat.FramePost.arr_in h.1 c 1 rfl).trans ((arr_eq m c 1).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)
    (run_quiescent m ρ)

end Cert.Kernel5.InProj

end
-- ==== Proof.InProjPay.lean ====
/-
  What the input projection's body stores, number by number: the normed rows, the products with the weights and, for the tiles
  with a convolution, the four taps, the activation and the norm over the 128 lanes of a head.
-/
module

public import proofs.«01_k».proof.Proof.Gen.Kernel5Ideal.Skeleton
public import proofs.«01_k».proof.Proof.FfnUp
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Kernel5Ideal.InProj

open Cert.Kernel5Ideal Cert.Kernel5Ideal.Gen
open Cert.FfnUp (rms silu)

/-- A row of the carried rows against a row of the tile's weights. -/
def dot (s : Vec Ideal S528x4096 .bf16) (w : Vec Ideal S1024x4096 .bf16) (r : Fin 528) (j : Fin 1024) : EReal :=
  ∑ k : Fin 4096, s (ix2 r k) * w (ix2 j k)

/-- The four taps, the bias and the activation. -/
def taps (s : Vec Ideal S528x4096 .bf16) (w : Vec Ideal S1024x4096 .bf16) (cw : Vec Ideal S4x1024 .f32) (cb : Vec Ideal S1x1024 .f32)
    (l : Fin 512) (j : Fin 1024) : EReal :=
  silu (cb (ix2 0 j) + cw (ix2 3 j) * dot s w ⟨16 + l.val, by omega⟩ j + cw (ix2 0 j) * dot s w ⟨13 + l.val, by omega⟩ j
    + cw (ix2 1 j) * dot s w ⟨14 + l.val, by omega⟩ j + cw (ix2 2 j) * dot s w ⟨15 + l.val, by omega⟩ j)

/-- The factor of the lanes from `e` on in row `l`: the inverse norm and the queries' scale, in the tiles that have it. -/
def factor (b : BitVec 1) (z : EReal) (s : Vec Ideal S528x4096 .bf16) (w : Vec Ideal S1024x4096 .bf16) (cw : Vec Ideal S4x1024 .f32) (cb : Vec Ideal S1x1024 .f32)
    (l : Fin 512) (e : ℕ) (he : e ≤ 896) : EReal :=
  Scalar.select b (Ideal.rsqrt ((∑ k : Fin 128, taps s w cw cb l ⟨e + k.val, by omega⟩ * taps s w cw cb l ⟨e + k.val, by omega⟩)
    + Ideal.ofBits .f32 0x358637BD#32) * z) 1

/-- A lane of the tile with a convolution, counted from `e` on. -/
def lane (b : BitVec 1) (z : EReal) (s : Vec Ideal S528x4096 .bf16) (w : Vec Ideal S1024x4096 .bf16) (cw : Vec Ideal S4x1024 .f32) (cb : Vec Ideal S1x1024 .f32)
    (l : Fin 512) (e : ℕ) (he : e ≤ 896) (x : Fin 128) : EReal :=
  taps s w cw cb l ⟨e + x.val, by omega⟩ * factor b z s w cw cb l e he

set_option maxHeartbeats 4000000 in
/-- The eight stores of a tile with a convolution. -/
theorem lanes_at (b : BitVec 1) (z : EReal) (s : Vec Ideal S528x4096 .bf16) (w : Vec Ideal S1024x4096 .bf16) (cw : Vec Ideal S4x1024 .f32) (cb : Vec Ideal S1x1024 .f32)
    (l : Fin 512) (x : Fin 128) :
    k0_pay14 (F := Ideal) b z (k0_pay12 cw cb s w) (k0_pay13 cw cb s w) (ix2 l x)
        = lane b z s w cw cb l 0 (by omega) x
      ∧ k0_pay17 (F := Ideal) b z (k0_pay15 (k0_pay8 cw) (k0_pay9 cb) (k0_pay11 s w)) (k0_pay16 (k0_pay8 cw) (k0_pay9 cb) (k0_pay11 s w)) (ix2 l x)
        = lane b z s w cw cb l 128 (by omega) x
      ∧ k0_pay20 (F := Ideal) (k0_pay18 (k0_pay8 cw) (k0_pay9 cb) (k0_pay11 s w)) (k0_pay19 (k0_pay8 cw) (k0_pay9 cb) b z (k0_pay11 s w)) (ix2 l x)
        = lane b z s w cw cb l 256 (by omega) x
      ∧ k0_pay21 (F := Ideal) (k0_pay8 cw) (k0_pay9 cb) b z (k0_pay11 s w) (ix2 l x)
        = lane b z s w cw cb l 384 (by omega) x
      ∧ k0_pay22 (F := Ideal) (k0_pay8 cw) (k0_pay9 cb) b z (k0_pay11 s w) (ix2 l x)
        = lane b z s w cw cb l 512 (by omega) x
      ∧ k0_pay28 (F := Ideal) b z (k0_pay23 (k0_pay11 s w)) (k0_pay24 (k0_pay8 cw)) (k0_pay25 (k0_pay9 cb)) (k0_pay26 (k0_pay11 s w)) (k0_pay27 (k0_pay8 cw)) (ix2 l x)
        = lane b z s w cw cb l 640 (by omega) x
      ∧ k0_pay34 (F := Ideal) b z (k0_pay29 (k0_pay11 s w)) (k0_pay30 (k0_pay8 cw)) (k0_pay31 (k0_pay8 cw) (k0_pay9 cb) (k0_pay11 s w)) (k0_pay32 (k0_pay11 s w)) (k0_pay33 (k0_pay8 cw)) (ix2 l x)
        = lane b z s w cw cb l 768 (by omega) x
      ∧ k0_pay4 (F := Ideal) b z (k0_pay35 (k0_pay11 s w)) (k0_pay36 (k0_pay8 cw)) (k0_pay37 (k0_pay8 cw) (k0_pay9 cb) (k0_pay11 s w)) (k0_pay38 (k0_pay8 cw) (k0_pay11 s w)) (ix2 l x)
        = lane b z s w cw cb l 896 (by omega) x := by
  unfold lane factor taps silu dot
  simp only [← zero_sub (G := EReal)]
  refine ⟨?_, ?_, ?_, ?_, ?_, ?_, ?_, ?_⟩
  all_goals
    pointwise [k0_pay4, k0_pay8, k0_pay9, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
    try simp only [Nat.zero_add]
    try rfl

theorem prod_at (s : Vec Ideal S512x4096 .bf16) (w : Vec Ideal S1024x4096 .bf16) (l : Fin 512) (j : Fin 1024) :
    k0_pay3 (F := Ideal) s w (ix2 l j) = ∑ k : Fin 4096, s (ix2 l k) * w (ix2 j k) := by
  pointwise [k0_pay3]

theorem small_at (s : Vec Ideal S512x4096 .bf16) (w : Vec Ideal S128x4096 .bf16) (l : Fin 512) (j : Fin 128) :
    k0_pay2 (F := Ideal) s w (ix2 l j) = ∑ k : Fin 4096, s (ix2 l k) * w (ix2 j k) := by
  pointwise [k0_pay2]

theorem own_at (x2 : Vec Ideal S1x4096 .f32) (x0 : Vec Ideal S512x4096 .f32) (l : Fin 512) (k : Fin 4096) :
    k0_pay1 (F := Ideal) (k0_pay5 x2) x0 (k0_pay7 x0) (FloatOps.ofBits FTy.f32 1166016512#32) (ix2 l k)
      = rms (fun k => x0 (ix2 l k)) (x2 (ix2 0 k)) k := by
  pointwise [k0_pay1, k0_pay5, k0_pay7]
  rfl

theorem halo_at (q : Fin 32) (x2 : Vec Ideal S1x4096 .f32) (x1 : Vec Ideal S16x4096 .f32) (l : Fin 16) (k : Fin 4096) :
    k0_pay6 (F := Ideal) (BitVec.ofNat 32 q.val) x2 x1 (ix2 l k)
      = if q.val % 16 = 0 then 0 else rms (fun k => x1 (ix2 l k)) (x2 (ix2 0 k)) k := by
  pointwise [k0_pay6, k0_pay5]
  have e := Cert.Kernel2Ideal.FfnUp.first_eq q
  unfold Cert.Kernel2Ideal.FfnUp.first at e
  dsimp only at e
  rw [e]
  by_cases h0 : q.val % 16 = 0
  · rw [if_pos h0, if_pos h0]; rfl
  · rw [if_neg h0, if_neg h0]; rfl

end Cert.Kernel5Ideal.InProj

end
-- ==== Proof.InProjTile.lean ====
/-
  The tiles and the carried rows of the input projection as arrays, and that the body's stores together make them.
-/
module

public import proofs.«01_k».proof.Proof.InProjPay
public import Idealize.ShloMosaic.Lib.Pipeline.FrameBody
public import Idealize.ShloMosaic.Lib.Pipeline.ValueKit
public import Idealize.ShloMosaic.Lib.VecWindow
public import Idealize.ShloMosaic.Lib.WholeRead
public import Idealize.ShloMosaic.Lib.Ring
public import Idealize.ShloMosaic.Lib.Tactic

@[expose] public section

set_option maxRecDepth 16384

noncomputable section

namespace Cert.Kernel5Ideal.InProj

open Cert.Kernel5Ideal Cert.Kernel5Ideal.Gen
open Idealize.ShloMosaic Idealize.ShloMosaic.TcCoe Idealize.ShloMosaic.Tactic
open Cert.FfnUp (rms silu)

/-- The carried rows of block `q`: sixteen rows before it, zero at the first block of a sequence, then its own. -/
def fill (q : Fin 32) (x0 : Vec Ideal S512x4096 .f32) (x1 : Vec Ideal S16x4096 .f32) (x2 : Vec Ideal S1x4096 .f32) : Vec Ideal S528x4096 .bf16 := fun y =>
  if h : 16 ≤ (y 0).val then
    rms (fun k => x0 (ix2 (⟨(y 0).val - 16, by have := (y 0).isLt; change (y 0).val < 528 at this; omega⟩ : Fin 512) k)) (x2 (ix2 0 (y 1))) (y 1)
  else if q.val % 16 = 0 then 0 else rms (fun k => x1 (ix2 (⟨(y 0).val, by omega⟩ : Fin 16) k)) (x2 (ix2 0 (y 1))) (y 1)

/-- A tile with a convolution. -/
def convOut (b : BitVec 1) (z : EReal) (s : Vec Ideal S528x4096 .bf16) (w : Vec Ideal S1024x4096 .bf16) (cw : Vec Ideal S4x1024 .f32) (cb : Vec Ideal S1x1024 .f32) :
    Vec Ideal S512x1024 .f32 := fun y =>
  lane b z s w cw cb (y 0) ((y 1).val / 128 * 128) (by have := (y 1).isLt; change (y 1).val < 1024 at this; omega) ⟨(y 1).val % 128, by omega⟩

/-- A tile without one. -/
def plainOut (s : Vec Ideal S528x4096 .bf16) (w : Vec Ideal S1024x4096 .bf16) : Vec Ideal S512x1024 .f32 := fun y =>
  dot s w ⟨16 + (y 0).val, by have := (y 0).isLt; change (y 0).val < 512 at this; omega⟩ (y 1)

/-- The product with the narrow weights. -/
def smallOut (s : Vec Ideal S528x4096 .bf16) (w : Vec Ideal S128x4096 .bf16) : Vec Ideal S512x128 .f32 := fun y =>
  ∑ k : Fin 4096, s (ix2 (⟨16 + (y 0).val, by have := (y 0).isLt; change (y 0).val < 512 at this; omega⟩ : Fin 528) k) * w (ix2 (y 1) k)

abbrev isQk (a : BitVec 32) : BitVec 1 := Scalar.cmpi .slt a 4#32

theorem lane_congr (b : BitVec 1) (z : EReal) (s : Vec Ideal S528x4096 .bf16) (w : Vec Ideal S1024x4096 .bf16) (cw : Vec Ideal S4x1024 .f32) (cb : Vec Ideal S1x1024 .f32)
    (l l' : Fin 512) (e e' : ℕ) (he : e ≤ 896) (he' : e' ≤ 896) (x x' : Fin 128) (hl : l.val = l'.val) (h : e = e') (hx : x.val = x'.val) :
    lane b z s w cw cb l e he x = lane b z s w cw cb l' e' he' x' := by
  subst h; rw [Fin.ext hl, Fin.ext hx]

set_option maxHeartbeats 4000000 in
/-- The eight stores of a tile with a convolution, together. -/
theorem conv_writes {κ : Kind} {sp : Space} (v : View sig κ sp S512x1024 .f32) (f : v.ty.Contents (Elt Ideal)) (b : BitVec 1) (z : EReal)
    (s s' : Vec Ideal S528x4096 .bf16) (w w' : Vec Ideal S1024x4096 .bf16) (cw cw' : Vec Ideal S4x1024 .f32) (cb cb' : Vec Ideal S1x1024 .f32)
    (hs : s' = s) (hw : w' = w) (hcw : cw' = cw) (hcb : cb' = cb) :
    v.read (Elt Ideal) (v.writes (Elt Ideal) f [
      ⟨Rect.unit ![0, 896] S512x128.size inb_S512x1024_S512x128_0_896, k0_pay4 b z (k0_pay35 (k0_pay11 s' w')) (k0_pay36 (k0_pay8 cw')) (k0_pay37 (k0_pay8 cw') (k0_pay9 cb') (k0_pay11 s' w')) (k0_pay38 (k0_pay8 cw') (k0_pay11 s' w'))⟩,
      ⟨Rect.unit ![0, 768] S512x128.size inb_S512x1024_S512x128_0_768, k0_pay34 b z (k0_pay29 (k0_pay11 s' w')) (k0_pay30 (k0_pay8 cw')) (k0_pay31 (k0_pay8 cw') (k0_pay9 cb') (k0_pay11 s' w')) (k0_pay32 (k0_pay11 s' w')) (k0_pay33 (k0_pay8 cw'))⟩,
      ⟨Rect.unit ![0, 640] S512x128.size inb_S512x1024_S512x128_0_640, k0_pay28 b z (k0_pay23 (k0_pay11 s' w')) (k0_pay24 (k0_pay8 cw')) (k0_pay25 (k0_pay9 cb')) (k0_pay26 (k0_pay11 s' w')) (k0_pay27 (k0_pay8 cw'))⟩,
      ⟨Rect.unit ![0, 512] S512x128.size inb_S512x1024_S512x128_0_512, k0_pay22 (k0_pay8 cw') (k0_pay9 cb') b z (k0_pay11 s' w')⟩,
      ⟨Rect.unit ![0, 384] S512x128.size inb_S512x1024_S512x128_0_384, k0_pay21 (k0_pay8 cw') (k0_pay9 cb') b z (k0_pay11 s' w')⟩,
      ⟨Rect.unit ![0, 256] S512x128.size inb_S512x1024_S512x128_0_256, k0_pay20 (k0_pay18 (k0_pay8 cw') (k0_pay9 cb') (k0_pay11 s' w')) (k0_pay19 (k0_pay8 cw') (k0_pay9 cb') b z (k0_pay11 s' w'))⟩,
      ⟨Rect.unit ![0, 128] S512x128.size inb_S512x1024_S512x128_0_128, k0_pay17 b z (k0_pay15 (k0_pay8 cw') (k0_pay9 cb') (k0_pay11 s' w')) (k0_pay16 (k0_pay8 cw') (k0_pay9 cb') (k0_pay11 s' w'))⟩,
      ⟨Rect.unit ![0, 0] S512x128.size inb_S512x1024_S512x128_0_0, k0_pay14 b z (k0_pay12 cw' cb' s' w') (k0_pay13 cw' cb' s' w')⟩]) = convOut b z s w cw cb := by
  subst hs hw hcw hcb
  refine (View.read_writes_eq_canon v f _ (View.cover_of_tiledL _ ![512, 128] (by sl_kernel_rfl))).trans ?_
  funext y
  obtain ⟨l, j, rfl⟩ : ∃ (l : Fin 512) (j : Fin 1024), y = ix2 l j := ⟨y 0, y 1, by funext a; match a with | 0 => rfl | 1 => rfl⟩
  canon_tiles x hx using View.cover_of_tiledL _ ![512, 128] (by sl_kernel_rfl) _
  all_goals
    idx_vars x
    obtain ⟨h0, h1, h2, h3, h4, h5, h6, h7⟩ := lanes_at b z s' w' cw' cb' x0 x1
    first | rw [h0] | rw [h1] | rw [h2] | rw [h3] | rw [h4] | rw [h5] | rw [h6] | rw [h7]
    unfold convOut
    apply lane_congr
    · exact hx0.symm
    · change _ = j.val / 128 * 128; omega
    · change x1.val = j.val % 128; omega

/-- The two stores that fill the carried rows, together. -/
theorem fill_canon (q : Fin 32) (a : BitVec 32) (ha : a = BitVec.ofNat 32 q.val) (x0 x0' : Vec Ideal S512x4096 .f32) (x1 x1' : Vec Ideal S16x4096 .f32)
    (x2 x2' x2'' : Vec Ideal S1x4096 .f32) (h0 : x0' = x0) (h1 : x1' = x1) (h2 : x2' = x2) (h2' : x2'' = x2) :
    View.canon (Val := Elt Ideal) (s := S528x4096) (e := .bf16) [
      ⟨Rect.unit ![16, 0] ![512, 4096] inb_S528x4096_S512x4096_16_0,
        k0_pay1 (k0_pay5 x2') x0' (k0_pay7 x0') (FloatOps.ofBits FTy.f32 1166016512#32)⟩,
      ⟨Rect.unit ![0, 0] ![16, 4096] inb_S528x4096_S16x4096_0_0, k0_pay6 a x2'' x1'⟩] = fill q x0 x1 x2 := by
  subst ha h0 h1 h2 h2'
  funext y
  obtain ⟨r, k, rfl⟩ : ∃ (r : Fin 528) (k : Fin 4096), y = ix2 r k := ⟨y 0, y 1, by funext a; match a with | 0 => rfl | 1 => rfl⟩
  canon_tiles x hx using View.cover_of_tiledBy _ ![16, 4096] (by sl_kernel_rfl) _
  · idx_vars x
    change r.val = 16 + x0.val at hx0
    change k.val = x1.val at hx1
    obtain rfl : k = x1 := Fin.ext hx1
    refine (own_at _ _ x0 k).trans ?_
    unfold fill
    rw [dif_pos (by change 16 ≤ r.val; omega)]
    have e : (⟨r.val - 16, by omega⟩ : Fin 512) = x0 := Fin.ext (by show r.val - 16 = x0.val; omega)
    exact congrArg (fun z => rms (fun k => x0' (ix2 z k)) _ _) e.symm
  · idx_vars x
    change r.val = x0.val at hx0
    change k.val = x1.val at hx1
    obtain rfl : k = x1 := Fin.ext hx1
    refine (halo_at q _ _ x0 k).trans ?_
    unfold fill
    rw [dif_neg (by change ¬ 16 ≤ r.val; omega)]
    have e : (⟨r.val, by omega⟩ : Fin 16) = x0 := Fin.ext hx0
    exact congrArg (fun z => if q.val % 16 = 0 then 0 else rms (fun k => x1' (ix2 z k)) _ _) e.symm

theorem idx_own (l : Fin 512) (k : Fin 4096) :
    (Rect.unit (s := S528x4096) ![16, 0] ![512, 4096] inb_S528x4096_S512x4096_16_0).idx (ix2 l k) = ix2 (⟨16 + l.val, by omega⟩ : Fin 528) k :=
  funext fun a => Fin.ext (by
    rw [Rect.idx_unit_val]
    match a with
    | 0 => rfl
    | 1 => exact Nat.zero_add _)

theorem plain_writes {κ : Kind} {sp : Space} (v : View sig κ sp S512x1024 .f32) (f : v.ty.Contents (Elt Ideal)) (s : Vec Ideal S528x4096 .bf16)
    (s' : Vec Ideal S512x4096 .bf16) (w w' : Vec Ideal S1024x4096 .bf16) (hw : w' = w) (hs : ∀ (l : Fin 512) k, s' (ix2 l k) = s (ix2 ⟨16 + l.val, by omega⟩ k)) :
    v.read (Elt Ideal) (v.writes (Elt Ideal) f [⟨Rect.unit ![0, 0] ![512, 1024] inb_S512x1024_S512x1024_0_0, k0_pay3 s' w'⟩]) = plainOut s w := by
  subst hw
  refine (View.read_writes_full v f inb_S512x1024_S512x1024_0_0 _ []).trans ?_
  funext y
  obtain ⟨l, j, rfl⟩ : ∃ (l : Fin 512) (j : Fin 1024), y = ix2 l j := ⟨y 0, y 1, by funext a; match a with | 0 => rfl | 1 => rfl⟩
  refine (prod_at s' w' l j).trans ?_
  simp only [hs]
  rfl

theorem small_writes {κ : Kind} {sp : Space} (v : View sig κ sp S512x128 .f32) (f : v.ty.Contents (Elt Ideal)) (s : Vec Ideal S528x4096 .bf16)
    (s' : Vec Ideal S512x4096 .bf16) (w w' : Vec Ideal S128x4096 .bf16) (hw : w' = w) (hs : ∀ (l : Fin 512) k, s' (ix2 l k) = s (ix2 ⟨16 + l.val, by omega⟩ k)) :
    v.read (Elt Ideal) (v.writes (Elt Ideal) f [⟨Rect.unit ![0, 0] ![512, 128] inb_S512x128_S512x128_0_0, k0_pay2 s' w'⟩]) = smallOut s w := by
  subst hw
  refine (View.read_writes_full v f inb_S512x128_S512x128_0_0 _ []).trans ?_
  funext y
  obtain ⟨l, j, rfl⟩ : ∃ (l : Fin 512) (j : Fin 128), y = ix2 l j := ⟨y 0, y 1, by funext a; match a with | 0 => rfl | 1 => rfl⟩
  refine (small_at s' w' l j).trans ?_
  simp only [hs]
  rfl

/-- A load of a whole buffer that holds `x` gives `x`. -/
theorem load_whole {κ : Kind} {sp : Space} {s : Shape} {e : EltTy} {a : Memref sig κ sp s e} (h : a.IsWhole) (x : s.Idx → Elt Ideal e)
    {off : Fin s.rank → ℕ} (inb : ∀ b, off b + s.size b ≤ s.size b) :
    a.view.readAt (Elt Ideal) (Rect.unit off s.size inb).toLoadRect (h.unread x) = x :=
  (View.readAt_full a.view _ inb).trans (h.read_unread x)

/-- A load of a whole buffer that has been covered by stores. -/
theorem load_canon {κ : Kind} {sp : Space} (v : View sig κ sp S528x4096 .bf16) (L : List (View.Piece (Elt Ideal) S528x4096 .bf16)) (s : Vec Ideal S528x4096 .bf16)
    (h : View.canon L = s) : v.readCov L (Rect.unit (s := S528x4096) ![0, 0] ![528, 4096] inb_S528x4096_S528x4096_0_0).toLoadRect = s := by
  subst h
  rw [View.readCov_eq_canon']
  funext y
  refine congrArg _ (funext fun a => Fin.ext ?_)
  rw [LoadRect.idx]
  show ![0, 0] a + 1 * (y a).val = (y a).val
  match a with
  | 0 => show 0 + 1 * _ = _; omega
  | 1 => show 0 + 1 * _ = _; omega

/-- A load of the block's own rows out of the buffer that has been covered by stores. -/
theorem load_own {κ : Kind} {sp : Space} (v : View sig κ sp S528x4096 .bf16) (L : List (View.Piece (Elt Ideal) S528x4096 .bf16)) (s : Vec Ideal S528x4096 .bf16)
    (h : View.canon L = s) (l : Fin 512) (k : Fin 4096) :
    v.readCov L (Rect.unit (s := S528x4096) ![16, 0] ![512, 4096] inb_S528x4096_S512x4096_16_0).toLoadRect (ix2 l k) = s (ix2 ⟨16 + l.val, by omega⟩ k) := by
  subst h
  rw [View.readCov_eq_canon']
  exact congrArg _ (idx_own l k)

end Cert.Kernel5Ideal.InProj

end
-- ==== Proof.InProjRun.lean ====
/-
  The body of the input projection at a point, in its three cases: the first point of a block, which fills the carried rows; a later
  point with a convolution; and a point without one. Each run says what the buffers hold afterwards.
-/
module

public import proofs.«01_k».proof.Proof.Gen.Kernel5Ideal.Frame
public import proofs.«01_k».proof.Proof.InProjTile
public import Idealize.ShloMosaic.Lib.Pipeline.FrameBody
public import Idealize.ShloMosaic.Lib.Ring
public import Idealize.ShloMosaic.Lib.Tactic

@[expose] public section

set_option maxRecDepth 16384

noncomputable section

namespace Cert.Kernel5Ideal.InProj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnUp (rms silu)

local notation "𝕄" => MT nD τ sig Unit (Elt Ideal) ℕ (UR sig nD τ) ℕ

set_option maxHeartbeats 8000000 in
/-- A point without a convolution. -/
theorem runC (c : Dev nD) (i : grid0.Coords) (hc1 : ¬k0_cond1 i = 1#1) (hc2 : k0_cond2 i = 1#1) (hc3 : ¬k0_cond3 i = 1#1) (arg2 : Memref sig .tc .vmem S512x4096 .f32) (harg2 : arg2.IsWhole) (arg3 : Memref sig .tc .vmem S16x4096 .f32) (harg3 : arg3.IsWhole) (arg4 : Memref sig .tc .vmem S1x4096 .f32) (harg4 : arg4.IsWhole) (arg5 : Memref sig .tc .vmem S1024x4096 .bf16) (harg5 : arg5.IsWhole) (arg6 : Memref sig .tc .vmem S128x4096 .bf16) (harg6 : arg6.IsWhole) (arg7 : Memref sig .tc .vmem S4x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x128 .f32) (harg10 : arg10.IsWhole) (arg11 : Memref sig .tc .vmem S528x4096 .bf16) (harg11 : arg11.IsWhole)
    (x0 : Vec Ideal S512x4096 .f32) (x1 : Vec Ideal S16x4096 .f32) (x2 : Vec Ideal S1x4096 .f32) (x3 : Vec Ideal S1024x4096 .bf16) (x4 : Vec Ideal S128x4096 .bf16) (x5 : Vec Ideal S4x1024 .f32) (x6 : Vec Ideal S1x1024 .f32) (x7 : Vec Ideal S512x128 .f32) (x8 : Vec Ideal S528x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare x7 ∗ owns (c : Thread nD τ) arg11 fullShare x8
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (plainOut x8 x3) ∗ owns (c : Thread nD τ) arg10 fullShare x7 ∗ owns (c : Thread nD τ) arg11 fullShare x8) -∗ K ⟨⟩))
      ⊢ wp frame (wpE (defs₀ (F := Ideal)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    exact plain_writes arg9.view f7 x8 _ x3 _ (load_whole harg5 x3 inb_S1024x4096_S1024x4096_0_0) (fun l k => (harg11.readAt_unread x8 _ _).trans (congrArg x8 (idx_own l k)))
  isplitl [H8]
  · iexists _; isplitr; swap; · iexact H8
    ipureintro
    exact hf8
  iexists _; isplitr; swap; · iexact HS
  ipureintro
  exact harg11.read_unread _

set_option maxHeartbeats 8000000 in
/-- A later point with a convolution. -/
theorem runB (c : Dev nD) (i : grid0.Coords) (hc1 : ¬k0_cond1 i = 1#1) (hc2 : ¬k0_cond2 i = 1#1) (hc3 : k0_cond3 i = 1#1) (arg2 : Memref sig .tc .vmem S512x4096 .f32) (harg2 : arg2.IsWhole) (arg3 : Memref sig .tc .vmem S16x4096 .f32) (harg3 : arg3.IsWhole) (arg4 : Memref sig .tc .vmem S1x4096 .f32) (harg4 : arg4.IsWhole) (arg5 : Memref sig .tc .vmem S1024x4096 .bf16) (harg5 : arg5.IsWhole) (arg6 : Memref sig .tc .vmem S128x4096 .bf16) (harg6 : arg6.IsWhole) (arg7 : Memref sig .tc .vmem S4x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x128 .f32) (harg10 : arg10.IsWhole) (arg11 : Memref sig .tc .vmem S528x4096 .bf16) (harg11 : arg11.IsWhole)
    (x0 : Vec Ideal S512x4096 .f32) (x1 : Vec Ideal S16x4096 .f32) (x2 : Vec Ideal S1x4096 .f32) (x3 : Vec Ideal S1024x4096 .bf16) (x4 : Vec Ideal S128x4096 .bf16) (x5 : Vec Ideal S4x1024 .f32) (x6 : Vec Ideal S1x1024 .f32) (x7 : Vec Ideal S512x128 .f32) (x8 : Vec Ideal S528x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare x7 ∗ owns (c : Thread nD τ) arg11 fullShare x8
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (convOut (isQk (BitVec.ofNat 32 (i 1).val)) (k0_pay10 (F := Ideal) (BitVec.ofNat 32 (i 1).val)) x8 x3 x5 x6) ∗ owns (c : Thread nD τ) arg10 fullShare x7 ∗ owns (c : Thread nD τ) arg11 fullShare x8) -∗ K ⟨⟩))
      ⊢ wp frame (wpE (defs₀ (F := Ideal)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    exact conv_writes arg9.view f7 _ _ x8 _ x3 _ x5 _ x6 _ (load_whole harg11 x8 inb_S528x4096_S528x4096_0_0) (load_whole harg5 x3 inb_S1024x4096_S1024x4096_0_0) (load_whole harg7 x5 inb_S4x1024_S4x1024_0_0) (load_whole harg8 x6 inb_S1x1024_S1x1024_0_0)
  isplitl [H8]
  · iexists _; isplitr; swap; · iexact H8
    ipureintro
    exact hf8
  iexists _; isplitr; swap; · iexact HS
  ipureintro
  exact harg11.read_unread _

set_option maxHeartbeats 8000000 in
/-- The first point of a block. -/
theorem runA (c : Dev nD) (i : grid0.Coords) (hc1 : k0_cond1 i = 1#1) (hc2 : ¬k0_cond2 i = 1#1) (hc3 : k0_cond3 i = 1#1) (q : Fin 32) (hq : (i 0).val = q.val) (arg2 : Memref sig .tc .vmem S512x4096 .f32) (harg2 : arg2.IsWhole) (arg3 : Memref sig .tc .vmem S16x4096 .f32) (harg3 : arg3.IsWhole) (arg4 : Memref sig .tc .vmem S1x4096 .f32) (harg4 : arg4.IsWhole) (arg5 : Memref sig .tc .vmem S1024x4096 .bf16) (harg5 : arg5.IsWhole) (arg6 : Memref sig .tc .vmem S128x4096 .bf16) (harg6 : arg6.IsWhole) (arg7 : Memref sig .tc .vmem S4x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x128 .f32) (harg10 : arg10.IsWhole) (arg11 : Memref sig .tc .vmem S528x4096 .bf16) (harg11 : arg11.IsWhole)
    (x0 : Vec Ideal S512x4096 .f32) (x1 : Vec Ideal S16x4096 .f32) (x2 : Vec Ideal S1x4096 .f32) (x3 : Vec Ideal S1024x4096 .bf16) (x4 : Vec Ideal S128x4096 .bf16) (x5 : Vec Ideal S4x1024 .f32) (x6 : Vec Ideal S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (convOut (isQk (BitVec.ofNat 32 (i 1).val)) (k0_pay10 (F := Ideal) (BitVec.ofNat 32 (i 1).val)) (fill q x0 x1 x2) x3 x5 x6) ∗ owns (c : Thread nD τ) arg10 fullShare (smallOut (fill q x0 x1 x2) x4) ∗ owns (c : Thread nD τ) arg11 fullShare (fill q x0 x1 x2)) -∗ K ⟨⟩))
      ⊢ wp frame (wpE (defs₀ (F := Ideal)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  have hfill := fill_canon q (BitVec.ofNat 32 (i 0).val) (by rw [hq]) x0 _ x1 _ x2 _ _ (load_whole harg2 x0 inb_S512x4096_S512x4096_0_0)
    (load_whole harg3 x1 inb_S16x4096_S16x4096_0_0) (load_whole harg4 x2 inb_S1x4096_S1x4096_0_0) (load_whole harg4 x2 inb_S1x4096_S1x4096_0_0)
  isplitl [H7]
  · iexists _; isplitr; swap; · iexact H7
    ipureintro
    exact conv_writes arg9.view f7 _ _ _ _ x3 _ x5 _ x6 _ (load_canon arg11.view _ _ hfill) (load_whole harg5 x3 inb_S1024x4096_S1024x4096_0_0) (load_whole harg7 x5 inb_S4x1024_S4x1024_0_0) (load_whole harg8 x6 inb_S1x1024_S1x1024_0_0)
  isplitl [H8]
  · iexists _; isplitr; swap; · iexact H8
    ipureintro
    exact small_writes arg10.view f8 _ _ x4 _ (load_whole harg6 x4 inb_S128x4096_S128x4096_0_0) (load_own arg11.view _ _ hfill)
  iexists _; isplitr; swap; · iexact HS
  ipureintro
  exact (View.read_writes_eq_canon arg11.view fs _ (View.cover_of_tiledBy _ ![16, 4096] (by sl_kernel_rfl))).trans hfill

end Cert.Kernel5Ideal.InProj

end
-- ==== Proof.InProjDat.lean ====
/-
  What the input projection's call writes, point by point: the carried rows of each block, the tiles and the narrow product; the call's
  frame with them named.
-/
module

public import proofs.«01_k».proof.Proof.InProjRun
public import Idealize.ShloMosaic.Lib.Pipeline.TableIdle
public import Idealize.ShloMosaic.Lib.Claim

@[expose] public section

set_option maxRecDepth 16384

noncomputable section

namespace Cert.Kernel5Ideal.InProj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The points -/

theorem size : cfg0.N = 448 := N_0
theorem point_lt (t : Fin cfg0.N) : t.val < 448 := lt_of_lt_of_eq t.isLt size
/-- The block of a point. -/
def blockOf (t : Fin cfg0.N) : Fin 32 := ⟨t.val / 14, by have := point_lt t; omega⟩
/-- The first point of a point's block. -/
def first (t : Fin cfg0.N) : Fin cfg0.N := ⟨t.val / 14 * 14, lt_of_le_of_lt (Nat.div_mul_le_self _ _) t.isLt⟩
def prev (t : Fin cfg0.N) : Fin cfg0.N := ⟨t.val - 1, by have := t.isLt; omega⟩

theorem row_at : ∀ t : Fin cfg0.N, ((grid0.coords t) 0).val = t.val / 14 := by decide +kernel
theorem col_at : ∀ t : Fin cfg0.N, ((grid0.coords t) 1).val = t.val % 14 := by decide +kernel
theorem cond1_at : ∀ t : Fin cfg0.N, k0_cond1 (grid0.coords t) = 1#1 ↔ t.val % 14 = 0 := by decide +kernel
theorem cond2_at : ∀ t : Fin cfg0.N, k0_cond2 (grid0.coords t) = 1#1 ↔ (6 ≤ t.val % 14 ∧ t.val % 14 ≤ 9) := by decide +kernel
theorem cond3_at : ∀ t : Fin cfg0.N, k0_cond3 (grid0.coords t) = 1#1 ↔ ¬(6 ≤ t.val % 14 ∧ t.val % 14 ≤ 9) := by decide +kernel
theorem idle7_at : ∀ t : Fin cfg0.N, cfg0.idle 7 (grid0.coords t) = false := by decide +kernel
theorem idle8_at : ∀ t : Fin cfg0.N, cfg0.idle 8 (grid0.coords t) = decide (t.val % 14 ≠ 0) := by decide +kernel

theorem fresh8_at : ∀ n, n ≤ cfg0.N → cfg0.fresh 8 n = decide (n % 14 = 0) :=
  Cfg.fresh_tab cfg0 8 (fun n => decide (n % 14 = 0)) rfl (by decide +kernel)

theorem first_self (t : Fin cfg0.N) (h : t.val % 14 = 0) : first t = t := Fin.ext (by change t.val / 14 * 14 = t.val; omega)
theorem first_prev (t : Fin cfg0.N) (h : t.val % 14 ≠ 0) : first (prev t) = first t :=
  Fin.ext (by change (t.val - 1) / 14 * 14 = t.val / 14 * 14; omega)
theorem block_prev (t : Fin cfg0.N) (h : t.val % 14 ≠ 0) : blockOf (prev t) = blockOf t :=
  Fin.ext (by change (t.val - 1) / 14 = t.val / 14; omega)

/-! ## What is written -/

/-- The carried rows at a point: made at the first point of its block. -/
def rows (c : Dev nD) (t : Fin cfg0.N) : Vec Ideal S528x4096 .bf16 :=
  fill (blockOf t) (iblk m c 0 (first t)) (iblk m c 1 (first t)) (iblk m c 2 (first t))

/-- The narrow product of a point's block. -/
def small (c : Dev nD) (t : Fin cfg0.N) : Vec Ideal S512x128 .f32 := smallOut (rows m c t) (iblk m c 4 (first t))

/-- The tile a point writes. -/
def tile (c : Dev nD) (t : Fin cfg0.N) : Vec Ideal S512x1024 .f32 :=
  if 6 ≤ t.val % 14 ∧ t.val % 14 ≤ 9 then plainOut (rows m c t) (iblk m c 3 t)
  else convOut (isQk (BitVec.ofNat 32 (grid0.coords t 1).val)) (k0_pay10 (F := Ideal) (BitVec.ofNat 32 (grid0.coords t 1).val))
    (rows m c t) (iblk m c 3 t) (iblk m c 5 t) (iblk m c 6 t)

theorem rows_first (c : Dev nD) (t : Fin cfg0.N) (h : t.val % 14 = 0) :
    rows m c t = fill (blockOf t) (iblk m c 0 t) (iblk m c 1 t) (iblk m c 2 t) := by unfold rows; rw [first_self t h]
theorem rows_prev (c : Dev nD) (t : Fin cfg0.N) (h : t.val % 14 ≠ 0) : rows m c (prev t) = rows m c t := by
  unfold rows; rw [first_prev t h, block_prev t h]
theorem small_first (c : Dev nD) (t : Fin cfg0.N) (h : t.val % 14 = 0) : small m c t = smallOut (rows m c t) (iblk m c 4 t) := by
  unfold small; rw [first_self t h]
theorem small_prev (c : Dev nD) (t : Fin cfg0.N) (h : t.val % 14 ≠ 0) : small m c (prev t) = small m c t := by
  unfold small; rw [rows_prev m c t h, first_prev t h]

/-! ## The data of the run -/

abbrev buf0 (t : Fin cfg0.N) : Memref sig .tc .vmem S512x4096 .f32 := win0_0.stage (cfg0.slots t 0)
abbrev buf1 (t : Fin cfg0.N) : Memref sig .tc .vmem S16x4096 .f32 := win0_1.stage (cfg0.slots t 1)
abbrev buf2 (t : Fin cfg0.N) : Memref sig .tc .vmem S1x4096 .f32 := win0_2.stage (cfg0.slots t 2)
abbrev buf3 (t : Fin cfg0.N) : Memref sig .tc .vmem S1024x4096 .bf16 := win0_3.stage (cfg0.slots t 3)
abbrev buf4 (t : Fin cfg0.N) : Memref sig .tc .vmem S128x4096 .bf16 := win0_4.stage (cfg0.slots t 4)
abbrev buf5 (t : Fin cfg0.N) : Memref sig .tc .vmem S4x1024 .f32 := win0_5.stage (cfg0.slots t 5)
abbrev buf6 (t : Fin cfg0.N) : Memref sig .tc .vmem S1x1024 .f32 := win0_6.stage (cfg0.slots t 6)
abbrev buf7 (t : Fin cfg0.N) : Memref sig .tc .vmem S512x1024 .f32 := win0_7.stage (cfg0.slots t 7)
abbrev buf8 (t : Fin cfg0.N) : Memref sig .tc .vmem S512x128 .f32 := win0_8.stage (cfg0.slots t 8)
abbrev scr : Memref sig .tc .vmem S528x4096 .bf16 := Memref.whole cc0_scratch0

theorem inv_eq (c : Dev nD) :
    (Pipeline.ΦA spec0 c : sProp 𝕄) = iprop(iprop(∃ d, owns (c : Thread nD τ) scr fullShare d) ∗ (∃ r, prngReg c r)) := by
  unfold Pipeline.ΦA; rw [scopedRest0_eq]; simp only [scr, owns_whole]; try rfl

/-- Before the first point nothing is known of the carried rows; before a later one they are those of the point before. -/
def inv (c : Dev nD) : (n : ℕ) → n ≤ cfg0.N → sProp 𝕄
  | 0, _ => Pipeline.ΦA spec0 c
  | n + 1, hn => iprop(owns (c : Thread nD τ) scr fullShare (rows m c ⟨n, hn⟩) ∗ (∃ r, prngReg c r))

theorem inv_pos (c : Dev nD) (t : Fin cfg0.N) (h : t.val % 14 ≠ 0) :
    inv m c t.val (Nat.le_of_lt t.isLt) = iprop(owns (c : Thread nD τ) scr fullShare (rows m c t) ∗ (∃ r, prngReg c r)) := by
  rw [← rows_prev m c t h]
  obtain ⟨n, hn⟩ := t
  cases n with
  | zero => exact absurd rfl h
  | succ n => rfl

theorem inv_weak (c : Dev nD) : (n : ℕ) → (h : n ≤ cfg0.N) →
    inv m c n h ⊢ iprop(iprop(∃ d, owns (c : Thread nD τ) scr fullShare d) ∗ (∃ r, prngReg c r))
  | 0, _ => by rw [← inv_eq]; exact .refl
  | n + 1, hn => by
    unfold inv
    iintro ⟨HS, Hg⟩
    isplitl [HS]
    · iexists _; iexact HS
    iexact Hg

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => tile m c t
    | ⟨8, _⟩ => small m c t
  Φ t := inv m c t.val (Nat.le_of_lt_succ t.isLt)
  q w := Pipeline.shareOf spec0 w
  owed _ := 0

theorem arr_eq (c : Dev nD) (w : Fin cfg0.W) : (dats m 0 c).A w = V m c (Pipeline.arrRef spec0 w) := by dsimp only [dats]

theorem before0 (c : Dev nD) (t : Fin cfg0.N) (d) : (dats m 0 c).before 0 t d = iblk m c 0 t :=
  before0_0_of m (dats m 0 c) (arr_eq m c 0) (fun t => by dsimp only [dats]) t d
theorem before1 (c : Dev nD) (t : Fin cfg0.N) (d) : (dats m 0 c).before 1 t d = iblk m c 1 t :=
  before0_1_of m (dats m 0 c) (arr_eq m c 1) (fun t => by dsimp only [dats]) t d
theorem before2 (c : Dev nD) (t : Fin cfg0.N) (d) : (dats m 0 c).before 2 t d = iblk m c 2 t :=
  before0_2_of m (dats m 0 c) (arr_eq m c 2) (fun t => by dsimp only [dats]) t d
theorem before3 (c : Dev nD) (t : Fin cfg0.N) (d) : (dats m 0 c).before 3 t d = iblk m c 3 t :=
  before0_3_of m (dats m 0 c) (arr_eq m c 3) (fun t => by dsimp only [dats]) t d
theorem before4 (c : Dev nD) (t : Fin cfg0.N) (d) : (dats m 0 c).before 4 t d = iblk m c 4 t :=
  before0_4_of m (dats m 0 c) (arr_eq m c 4) (fun t => by dsimp only [dats]) t d
theorem before5 (c : Dev nD) (t : Fin cfg0.N) (d) : (dats m 0 c).before 5 t d = iblk m c 5 t :=
  before0_5_of m (dats m 0 c) (arr_eq m c 5) (fun t => by dsimp only [dats]) t d
theorem before6 (c : Dev nD) (t : Fin cfg0.N) (d) : (dats m 0 c).before 6 t d = iblk m c 6 t :=
  before0_6_of m (dats m 0 c) (arr_eq m c 6) (fun t => by dsimp only [dats]) t d
theorem leaves_of (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]
theorem leaves0 (c : Dev nD) (t : Fin cfg0.N) : (dats m 0 c).leavesExact 0 t = owns (c : Thread nD τ) (buf0 t) fullShare (iblk m c 0 t) :=
  leaves_of m c t 0 rfl
theorem leaves1 (c : Dev nD) (t : Fin cfg0.N) : (dats m 0 c).leavesExact 1 t = owns (c : Thread nD τ) (buf1 t) fullShare (iblk m c 1 t) :=
  leaves_of m c t 1 rfl
theorem leaves2 (c : Dev nD) (t : Fin cfg0.N) : (dats m 0 c).leavesExact 2 t = owns (c : Thread nD τ) (buf2 t) fullShare (iblk m c 2 t) :=
  leaves_of m c t 2 rfl
theorem leaves3 (c : Dev nD) (t : Fin cfg0.N) : (dats m 0 c).leavesExact 3 t = owns (c : Thread nD τ) (buf3 t) fullShare (iblk m c 3 t) :=
  leaves_of m c t 3 rfl
theorem leaves4 (c : Dev nD) (t : Fin cfg0.N) : (dats m 0 c).leavesExact 4 t = owns (c : Thread nD τ) (buf4 t) fullShare (iblk m c 4 t) :=
  leaves_of m c t 4 rfl
theorem leaves5 (c : Dev nD) (t : Fin cfg0.N) : (dats m 0 c).leavesExact 5 t = owns (c : Thread nD τ) (buf5 t) fullShare (iblk m c 5 t) :=
  leaves_of m c t 5 rfl
theorem leaves6 (c : Dev nD) (t : Fin cfg0.N) : (dats m 0 c).leavesExact 6 t = owns (c : Thread nD τ) (buf6 t) fullShare (iblk m c 6 t) :=
  leaves_of m c t 6 rfl

theorem after7 (c : Dev nD) (t : Fin cfg0.N) : (dats m 0 c).after 7 t = tile m c t := by dsimp only [dats]
theorem after8 (c : Dev nD) (t : Fin cfg0.N) : (dats m 0 c).after 8 t = small m c t := by dsimp only [dats]
theorem leaves7 (c : Dev nD) (t : Fin cfg0.N) : (dats m 0 c).leavesExact 7 t = owns (c : Thread nD τ) (buf7 t) fullShare (tile m c t) := by
  unfold Dat.leavesExact; rw [idle7_at t, after7]

/-- Past the first point of a block the narrow buffer holds the block's product. -/
theorem before8 (c : Dev nD) (t : Fin cfg0.N) (h : t.val % 14 ≠ 0) (d) : (dats m 0 c).before 8 t d = small m c t := by
  rw [Dat.before_out_traj _ 8 rfl (fun _ _ => rfl) (fun t _ hi _ => ?_) t.val t rfl d, fresh8_at t.val (Nat.le_of_lt t.isLt), decide_eq_false h,
    if_neg Bool.false_ne_true]
  · exact (after8 m c (prev t)).trans (small_prev m c t h)
  · have h' : t.val % 14 ≠ 0 := of_decide_eq_true ((idle8_at t).symm.trans hi)
    exact (after8 m c t).trans ((small_prev m c t h').symm.trans (after8 m c (prev t)).symm)

theorem leaves8_first (c : Dev nD) (t : Fin cfg0.N) (h : t.val % 14 = 0) :
    (dats m 0 c).leavesExact 8 t = owns (c : Thread nD τ) (buf8 t) fullShare (small m c t) := by
  unfold Dat.leavesExact; rw [idle8_at t, decide_eq_false (not_not.mpr h), after8]

theorem leaves8 (c : Dev nD) (t : Fin cfg0.N) (h : t.val % 14 ≠ 0) :
    owns (c : Thread nD τ) (buf8 t) fullShare (small m c t) ⊢ ((dats m 0 c).leavesExact 8 t : sProp 𝕄) := by
  unfold Dat.leavesExact; rw [idle8_at t, decide_eq_true h]
  dsimp only
  cases (cfg0.win 8).flush t with
  | true => dsimp only; rw [after8]
  | false =>
    dsimp only
    iintro H
    iexists (small m c t)
    rw [before8 m c t h]
    iexact H

def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 2400000 in
theorem body_at (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4, before5, before6]
  rw [leaves0, leaves1, leaves2, leaves3, leaves4, leaves5, leaves6, leaves7]
  rw [show (dats m 0 c).Φ t.succ = iprop(owns (c : Thread nD τ) scr fullShare (rows m c t) ∗ (∃ r, prngReg c r)) from rfl,
    show (dats m 0 c).Φ t.castSucc = inv m c t.val (Nat.le_of_lt t.isLt) from rfl,
    show (dats m 0 c).owesAt () t.succ = (dats m 0 c).owesAt () t.castSucc from rfl]
  by_cases h0 : t.val % 14 = 0
  · have h2 : ¬(6 ≤ t.val % 14 ∧ t.val % 14 ≤ 9) := by omega
    rw [leaves8_first m c t h0, small_first m c t h0, rows_first m c t h0]
    unfold tile; rw [if_neg h2, rows_first m c t h0]
    refine (Idealize.SL.BI.Laws.sep_mono (inv_weak m c _ _) (.refl)).trans ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA c (grid0.coords t) ((cond1_at t).mpr h0) (fun h => h2 ((cond2_at t).mp h)) ((cond3_at t).mpr h2) (blockOf t) (row_at t) _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [inv_pos m c t h0]
    simp only [before8 m c t h0]
    by_cases h2 : 6 ≤ t.val % 14 ∧ t.val % 14 ≤ 9
    · unfold tile; rw [if_pos h2]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runC c (grid0.coords t) (fun h => h0 ((cond1_at t).mp h)) ((cond2_at t).mpr h2) (fun h => (cond3_at t).mp h h2) _ _ _ _ _ _ _ _ _ _ _ _ _ _ _ _ _ _ _ _ (iblk m c 0 t) (iblk m c 1 t) (iblk m c 2 t) (iblk m c 3 t) (iblk m c 4 t) (iblk m c 5 t) (iblk m c 6 t) (small m c t) (rows m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS]; · iexact HS
      iintro ⟨H0, H1, H2, H3, H4, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iapply (leaves8 m c t h0) $$ H8
    · unfold tile; rw [if_neg h2]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runB c (grid0.coords t) (fun h => h0 ((cond1_at t).mp h)) (fun h => h2 ((cond2_at t).mp h)) ((cond3_at t).mpr h2) _ _ _ _ _ _ _ _ _ _ _ _ _ _ _ _ _ _ _ _ (iblk m c 0 t) (iblk m c 1 t) (iblk m c 2 t) (iblk m c 3 t) (iblk m c 4 t) (iblk m c 5 t) (iblk m c 6 t) (small m c t) (rows m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS]; · iexact HS
      iintro ⟨H0, H1, H2, H3, H4, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iapply (leaves8 m c t h0) $$ H8

theorem body_row (t : Fin cfg0.N) : defs₀ (F := Ideal) .tc cfg0.body (cfg0.bodyArgs t (cfg0.slots t)) = bodyAt0 t := by
  unfold defs₀; rw [Defs.onTc_tc]

theorem body_ok (c : Dev nD) : BodyObligation (dats m 0 c) (defs₀ (F := Ideal)) Variants.none () Set.univ := fun t => by
  rw [bigSep_W0, bigSep_W0, body_row]
  exact triple_restated (body_at m c t) rfl .rfl fun _ => .rfl

theorem inv_in (c : Dev nD) : Pipeline.ΦA spec0 c ⊢ (dats m 0 c).Φ 0 := .refl

theorem inv_out (c : Dev nD) : (dats m 0 c).Φ (Fin.last cfg0.N) ⊢ Pipeline.ΦA spec0 c := by
  rw [inv_eq]; exact inv_weak m c cfg0.N (Nat.le_refl _)

set_option backward.isDefEq.respectTransparency.types false in
theorem run_quiescent : θ_run defs (onTc (τ := τ) (main (F := Ideal))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_ok m c).loose) (hq := fun _ _ _ => rfl)
    (howed := fun _ _ => rfl) (V := V m) (hmain := hmain m Variants.none) (hA := arr_eq m) (hin := inv_in m) (hout := inv_out m)

theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (arr_eq m) ((θ_run defs _ _).mono (fun _ h => h.1) (run_quiescent m ρ))

theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_quiescent m ρ))

/-- The run with the two result arrays named. -/
theorem run_arrays : θ_run defs (onTc (τ := τ) (main (F := Ideal))) ⟨m, fun _ => 0, ρ⟩ (fun r => ∀ c : Dev nD,
      r.2.mem ((c.tc : Thread nD τ).loc main_v17_0) = (dats m 0 c).arrAt 7 cfg0.N
      ∧ r.2.mem ((c.tc : Thread nD τ).loc main_v17_1) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1.1 c).1 7, (h.1.1 c).1 8, h.2 c⟩) (θ_run_and (run_quiescent m ρ) (unchanged m ρ))

end Cert.Kernel5Ideal.InProj

end
-- ==== Proof.InProjRef.lean ====
/-
  The input projection: the rms-normed rows times the combined weights, the causal four-tap convolutions of the two mixers' columns with
  their activation, the norm of the queries and keys over a head's 128 lanes, and the queries' scale. Here the numbers the call is to
  give, and that the reference gives them.
-/
module

public import proofs.«01_k».proof.Proof.Gen.Reference5Ideal.Read
public import proofs.«01_k».proof.Proof.FfnUp
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.InProj

open Cert.FfnUp (hn silu rowOf SH SN)

abbrev SW : Shape := ⟨_, ![1, 4096, 14400]⟩
abbrev SG : Shape := ⟨_, ![1, 4, 6144]⟩
abbrev SS : Shape := ⟨_, ![1, 4, 4096]⟩
abbrev SB : Shape := ⟨_, ![1, 4096]⟩

variable (h : FVec Ideal SH .f32) (nw : FVec Ideal SN .f32) (w : FVec Ideal SW .f32) (gw : FVec Ideal SG .f32) (sw : FVec Ideal SS .f32) (sb : FVec Ideal SB .f32)

/-- A normed row against a column of the combined weights. -/
def prod (i : Fin 16384) (p : Fin 14400) : EReal := ∑ k : Fin 4096, hn h nw i k * w (ix3 0 k p)

/-- The product at row `s` of the sequence padded by three rows in front. -/
def padded (b : Fin 2) (s : Fin 8195) (p : Fin 14400) : EReal :=
  if hs : 3 ≤ s.val then prod h nw w (rowOf b ⟨s.val - 3, by omega⟩) p else 0

/-- Four taps over the padded product. -/
def conv (u : Fin 4 → EReal) (b : Fin 2) (t : Fin 8192) (p : Fin 14400) : EReal :=
  u 0 * padded h nw w b ⟨t.val, by omega⟩ p + u 1 * padded h nw w b ⟨1 + t.val, by omega⟩ p
    + u 2 * padded h nw w b ⟨2 + t.val, by omega⟩ p + u 3 * padded h nw w b ⟨3 + t.val, by omega⟩ p

/-- The queries, keys and values before the norm. -/
def qkv (b : Fin 2) (t : Fin 8192) (j : Fin 6144) : EReal :=
  silu (conv h nw w (fun k => gw (ix3 0 k j)) b t ⟨j.val, by omega⟩)

/-- A query or key over the norm of its head. -/
def normed (b : Fin 2) (t : Fin 8192) (j : Fin 4096) : EReal :=
  qkv h nw w gw b t ⟨j.val, by omega⟩ * Ideal.rsqrt ((∑ x : Fin 128, qkv h nw w gw b t ⟨j.val / 128 * 128 + x.val, by omega⟩
    * qkv h nw w gw b t ⟨j.val / 128 * 128 + x.val, by omega⟩) + Ideal.ofBits .f32 0x358637BD#32)

/-- The second mixer's columns. -/
def xbc (b : Fin 2) (t : Fin 8192) (j : Fin 4096) : EReal :=
  silu (conv h nw w (fun k => sw (ix3 0 k j)) b t ⟨10272 + j.val, by omega⟩ + sb (ix2 0 j))

/-- The wide result. -/
def out (b : Fin 2) (t : Fin 8192) (j : Fin 14336) : EReal :=
  if h1 : j.val < 2048 then normed h nw w gw b t ⟨j.val, by omega⟩ * Ideal.ofBits .f32 0x3DB504F3#32
  else if h2 : j.val < 4096 then normed h nw w gw b t ⟨j.val, by omega⟩
  else if h3 : j.val < 6144 then qkv h nw w gw b t ⟨j.val, by omega⟩
  else if h4 : j.val < 8192 then prod h nw w (rowOf b t) ⟨j.val, by omega⟩
  else if h5 : j.val < 10240 then prod h nw w (rowOf b t) ⟨32 + j.val, by omega⟩
  else xbc h nw w sw sb b t ⟨j.val - 10240, by omega⟩

/-- The narrow result. -/
def narrow (i : Fin 16384) (j : Fin 128) : EReal :=
  if h1 : j.val < 32 then prod h nw w i ⟨8192 + j.val, by omega⟩
  else if h2 : j.val < 64 then prod h nw w i ⟨14368 + (j.val - 32), by omega⟩
  else 0

theorem prod_congr (i i' : Fin 16384) (p p' : Fin 14400) (hi : i.val = i'.val) (e : p.val = p'.val) : prod h nw w i p = prod h nw w i' p' := by
  rw [Fin.ext hi, Fin.ext e]
theorem qkv_congr (b b' : Fin 2) (t t' : Fin 8192) (p p' : Fin 6144) (hb : b.val = b'.val) (ht : t.val = t'.val) (e : p.val = p'.val) :
    qkv h nw w gw b t p = qkv h nw w gw b' t' p' := by rw [Fin.ext hb, Fin.ext ht, Fin.ext e]
theorem normed_congr (b b' : Fin 2) (t t' : Fin 8192) (p p' : Fin 4096) (hb : b.val = b'.val) (ht : t.val = t'.val) (e : p.val = p'.val) :
    normed h nw w gw b t p = normed h nw w gw b' t' p' := by rw [Fin.ext hb, Fin.ext ht, Fin.ext e]
theorem xbc_congr (b b' : Fin 2) (t t' : Fin 8192) (p p' : Fin 4096) (hb : b.val = b'.val) (ht : t.val = t'.val) (e : p.val = p'.val) :
    xbc h nw w sw sb b t p = xbc h nw w sw sb b' t' p' := by rw [Fin.ext hb, Fin.ext ht, Fin.ext e]

end Cert.InProj

namespace Cert.Reference5Ideal.InProj

open Cert.Reference5Ideal Cert.Reference5Ideal.Read Cert.InProj
open Cert.FfnUp (hn silu rowOf SH SN)

variable (h : FVec Ideal SH .f32) (nw : FVec Ideal SN .f32) (w : FVec Ideal SW .f32) (gw : FVec Ideal SG .f32) (sw : FVec Ideal SS .f32) (sb : FVec Ideal SB .f32)

theorem hn_val (b : Fin 2) (t : Fin 8192) (k : Fin 4096) : val_main_v14 (F := Ideal) h nw (ix3 b t k) = hn h nw (rowOf b t) k := by
  pointwise [val_main_v14, val_main_v13, val_main_v12, val_main_v11, val_main_v10, val_main_v9, val_main_v8, val_main_v7, val_main_v6, val_main_cst_1,
    val_main_v5, val_main_v4, val_main_cst_0, val_main_v3, val_main_v2, val_main_cst, val_main_v1, val_main_v0]
  rfl

theorem prod_val (b : Fin 2) (t : Fin 8192) (p : Fin 14400) : val_main_v16 (F := Ideal) h nw w (ix3 b t p) = prod h nw w (rowOf b t) p := by
  have e := fun k => hn_val h nw b t k
  pointwise [val_main_v16, val_main_v15]
  simp only [e]
  rfl

theorem zero_val (i : S_.Idx) : val_main_call0_v0 (F := Ideal) i = 0 := by
  show (((0#32 : BitVec 32).toInt : ℝ) : EReal) = 0
  simp

theorem pad_qkv (b : Fin 2) (s : Fin 8195) (j : Fin 6144) : val_main_v21 (F := Ideal) h nw w (ix3 b s j) = padded h nw w b s ⟨j.val, by omega⟩ := by
  unfold padded
  by_cases hs : 3 ≤ s.val
  · rw [dif_pos hs, ← prod_val]
    pointwise [val_main_v21, val_main_v17]
    rw [dif_pos (by omega)]
  · rw [dif_neg hs]
    pointwise [val_main_v21]
    rw [dif_neg (by omega)]
    exact zero_val _

theorem pad_xbc (b : Fin 2) (s : Fin 8195) (j : Fin 4096) : val_main_v69 (F := Ideal) h nw w (ix3 b s j) = padded h nw w b s ⟨10272 + j.val, by omega⟩ := by
  unfold padded
  by_cases hs : 3 ≤ s.val
  · rw [dif_pos hs, ← prod_val]
    pointwise [val_main_v69, val_main_v20]
    rw [dif_pos (by omega)]
  · rw [dif_neg hs]
    pointwise [val_main_v69]
    rw [dif_neg (by omega)]
    exact zero_val _

theorem conv_qkv (b : Fin 2) (t : Fin 8192) (j : Fin 6144) :
    val_main_v49 (F := Ideal) h nw w gw (ix3 b t j) = conv h nw w (fun k => gw (ix3 0 k j)) b t ⟨j.val, by omega⟩ := by
  have e := fun s => pad_qkv h nw w b s j
  pointwise [val_main_v49, val_main_v48, val_main_v47, val_main_v46, val_main_v45, val_main_v44, val_main_v43, val_main_v42, val_main_v41, val_main_v40,
    val_main_v39, val_main_v38, val_main_v37, val_main_v36, val_main_v35, val_main_v34, val_main_v33, val_main_v32, val_main_v31, val_main_v30, val_main_v29,
    val_main_v28, val_main_v27, val_main_v26, val_main_v25, val_main_v24, val_main_v23, val_main_v22]
  simp only [e]
  rfl

theorem conv_xbc (b : Fin 2) (t : Fin 8192) (j : Fin 4096) :
    val_main_v101 (F := Ideal) h nw w sw sb (ix3 b t j)
      = conv h nw w (fun k => sw (ix3 0 k j)) b t ⟨10272 + j.val, by omega⟩ + sb (ix2 0 j) := by
  have e := fun s => pad_xbc h nw w b s j
  pointwise [val_main_v101, val_main_v100, val_main_v99, val_main_v98, val_main_v97, val_main_v96, val_main_v95, val_main_v94, val_main_v93, val_main_v92,
    val_main_v91, val_main_v90, val_main_v89, val_main_v88, val_main_v87, val_main_v86, val_main_v85, val_main_v84, val_main_v83, val_main_v82, val_main_v81,
    val_main_v80, val_main_v79, val_main_v78, val_main_v77, val_main_v76, val_main_v75, val_main_v74, val_main_v73, val_main_v72, val_main_v71, val_main_v70]
  simp only [e]
  rfl

theorem qkv_val (b : Fin 2) (t : Fin 8192) (j : Fin 6144) : val_main_v50 (F := Ideal) h nw w gw (ix3 b t j) = qkv h nw w gw b t j := by
  have e := conv_qkv h nw w gw b t j
  pointwise [val_main_v50, val_main_call1_v5, val_main_call1_v4, val_main_call1_cst_0, val_main_call1_v3, val_main_call1_v2, val_main_call1_cst,
    val_main_call1_v1, val_main_call1_v0]
  rw [e]
  rfl

theorem xbc_val (b : Fin 2) (t : Fin 8192) (j : Fin 4096) : val_main_v102 (F := Ideal) h nw w sw sb (ix3 b t j) = xbc h nw w sw sb b t j := by
  have e := conv_xbc h nw w sw sb b t j
  pointwise [val_main_v102, val_main_call3_v5, val_main_call3_v4, val_main_call3_cst_0, val_main_call3_v3, val_main_call3_v2, val_main_call3_cst,
    val_main_call3_v1, val_main_call3_v0]
  rw [e]
  rfl

theorem head_val (b : Fin 2) (t : Fin 8192) (g : Fin 2) (n : Fin 16) (x : Fin 128) :
    val_main_v52 (F := Ideal) h nw w gw (ix5 b t g n x) = qkv h nw w gw b t ⟨(g.val * 16 + n.val) * 128 + x.val, by omega⟩ := by
  rw [← qkv_val]
  pointwise [val_main_v52, val_main_v51]
  blk_ext

theorem normed_val (b : Fin 2) (t : Fin 8192) (g : Fin 2) (n : Fin 16) (x : Fin 128) :
    val_main_v60 (F := Ideal) h nw w gw (ix5 b t g n x) = normed h nw w gw b t ⟨(g.val * 16 + n.val) * 128 + x.val, by omega⟩ := by
  have e := fun x => head_val h nw w gw b t g n x
  pointwise [val_main_v60, val_main_v59, val_main_v58, val_main_v57, val_main_v56, val_main_cst_3, val_main_v55, val_main_v54, val_main_v53, val_main_cst_2]
  simp only [e]
  unfold normed
  refine congrArg (fun z => _ * Ideal.rsqrt (z + _)) (Finset.sum_congr rfl fun y _ => ?_)
  have q : (⟨(g.val * 16 + n.val) * 128 + y.val, by omega⟩ : Fin 6144) = ⟨((g.val * 16 + n.val) * 128 + x.val) / 128 * 128 + y.val, by omega⟩ :=
    Fin.ext (by dsimp only; omega)
  rw [q]

theorem queries_val (b : Fin 2) (t : Fin 8192) (j : Fin 2048) :
    val_main_v65 (F := Ideal) h nw w gw (ix3 b t j) = normed h nw w gw b t ⟨j.val, by omega⟩ * Ideal.ofBits .f32 0x3DB504F3#32 := by
  have e := normed_val h nw w gw b t 0 (⟨j.val / 128, by omega⟩ : Fin 16) (⟨j.val % 128, by omega⟩ : Fin 128)
  pointwise [val_main_v65, val_main_v64, val_main_v63, val_main_cst_4, val_main_v62, val_main_v61]
  rw [e]
  exact congrArg (· * _) (normed_congr _ _ _ _ _ _ _ _ _ _ rfl rfl (by show (0 * 16 + j.val / 128) * 128 + j.val % 128 = j.val; omega))

theorem keys_val (b : Fin 2) (t : Fin 8192) (j : Fin 2048) :
    val_main_v68 (F := Ideal) h nw w gw (ix3 b t j) = normed h nw w gw b t ⟨2048 + j.val, by omega⟩ := by
  pointwise [val_main_v68, val_main_v67, val_main_v66]
  refine (normed_val h nw w gw b t 1 (⟨j.val / 128, by omega⟩ : Fin 16) (⟨j.val % 128, by omega⟩ : Fin 128)).trans ?_
  exact normed_congr _ _ _ _ _ _ _ _ _ _ rfl rfl (by show (1 * 16 + j.val / 128) * 128 + j.val % 128 = 2048 + j.val; omega)

theorem values_val (b : Fin 2) (t : Fin 8192) (j : Fin 2048) :
    val_main_v103 (F := Ideal) h nw w gw (ix3 b t j) = qkv h nw w gw b t ⟨4096 + j.val, by omega⟩ := by
  rw [← qkv_val]
  pointwise [val_main_v103]

theorem gate_val (b : Fin 2) (t : Fin 8192) (j : Fin 2048) :
    val_main_v18 (F := Ideal) h nw w (ix3 b t j) = prod h nw w (rowOf b t) ⟨6144 + j.val, by omega⟩ := by
  rw [← prod_val]
  pointwise [val_main_v18]

theorem z_val (b : Fin 2) (t : Fin 8192) (j : Fin 2048) :
    val_main_v19 (F := Ideal) h nw w (ix3 b t j) = prod h nw w (rowOf b t) ⟨8224 + j.val, by omega⟩ := by
  rw [← prod_val]
  pointwise [val_main_v19]

theorem first_val (b : Fin 2) (t : Fin 8192) (j : Fin 32) :
    val_main_v105 (F := Ideal) h nw w (ix3 b t j) = prod h nw w (rowOf b t) ⟨8192 + j.val, by omega⟩ := by
  rw [← prod_val]
  pointwise [val_main_v105]

theorem second_val (b : Fin 2) (t : Fin 8192) (j : Fin 32) :
    val_main_v106 (F := Ideal) h nw w (ix3 b t j) = prod h nw w (rowOf b t) ⟨14368 + j.val, by omega⟩ := by
  rw [← prod_val]
  pointwise [val_main_v106]

theorem narrow_val (i : Fin 16384) (j : Fin 128) : val_main_v110 (F := Ideal) h nw w (ix2 i j) = narrow h nw w i j := by
  pointwise [val_main_v110, val_main_v108]
  have e : rowOf ⟨i.val / 8192, by omega⟩ ⟨i.val % 8192, by omega⟩ = i := Fin.ext (by show i.val / 8192 * 8192 + i.val % 8192 = i.val; omega)
  unfold narrow
  by_cases h1 : j.val < 32
  · rw [dif_pos h1, dif_pos h1]
    exact (first_val h nw w _ _ _).trans (by rw [e])
  rw [dif_neg h1, dif_neg h1]
  by_cases h2 : j.val < 64
  · rw [dif_pos h2, dif_pos (by omega)]
    exact (second_val h nw w _ _ _).trans (by rw [e])
  rw [dif_neg h2, dif_neg (by omega)]
  pointwise [val_main_v107, val_main_cst_6]

theorem out_val (b : Fin 2) (t : Fin 8192) (j : Fin 14336) :
    val_main_v109 (F := Ideal) h nw w gw sw sb (ix2 (rowOf b t) j) = out h nw w gw sw sb b t j := by
  have eb : (b.val * 8192 + t.val) / 8192 = b.val := by omega
  have et : (b.val * 8192 + t.val) % 8192 = t.val := by omega
  pointwise [val_main_v109, val_main_v104]
  unfold out
  by_cases h1 : j.val < 2048
  · rw [dif_pos h1, dif_pos h1]
    exact (queries_val h nw w gw _ _ _).trans (congrArg (· * _) (normed_congr _ _ _ _ _ _ _ _ _ _ eb et rfl))
  rw [dif_neg h1, dif_neg h1]
  by_cases h2 : j.val < 4096
  · rw [dif_pos h2, dif_pos (by omega)]
    exact (keys_val h nw w gw _ _ _).trans (normed_congr _ _ _ _ _ _ _ _ _ _ eb et (by dsimp only; omega))
  rw [dif_neg h2, dif_neg (by omega)]
  by_cases h3 : j.val < 6144
  · rw [dif_pos h3, dif_pos (by omega)]
    exact (values_val h nw w gw _ _ _).trans (qkv_congr _ _ _ _ _ _ _ _ _ _ eb et (by dsimp only; omega))
  rw [dif_neg h3, dif_neg (by omega)]
  by_cases h4 : j.val < 8192
  · rw [dif_pos h4, dif_pos (by omega)]
    exact (gate_val h nw w _ _ _).trans (prod_congr _ _ _ _ _ _ _ (by dsimp only [rowOf]; omega) (by dsimp only; omega))
  rw [dif_neg h4, dif_neg (by omega)]
  by_cases h5 : j.val < 10240
  · rw [dif_pos h5, dif_pos (by omega)]
    exact (z_val h nw w _ _ _).trans (prod_congr _ _ _ _ _ _ _ (by dsimp only [rowOf]; omega) (by dsimp only; omega))
  rw [dif_neg h5, dif_neg (by omega)]
  exact (xbc_val h nw w sw sb _ _ _).trans (xbc_congr _ _ _ _ _ _ _ _ _ _ _ eb et (by dsimp only; omega))

end Cert.Reference5Ideal.InProj

end
-- ==== Proof.InProjVal.lean ====
/-
  The input projection's blocks as numbers of its arguments: the weights and the convolution's numbers as the host lays them out, the
  normed rows, the products and the taps; and from them the two result arrays.
-/
module

public import proofs.«01_k».proof.Proof.InProjDat
public import proofs.«01_k».proof.Proof.InProjRef
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel5Ideal.InProj

open Cert.Kernel5Ideal Cert.Kernel5Ideal.Gen Cert.InProj
open Cert.FfnUp (hn silu rms rowOf SH SN)
open Idealize.ShloMosaic Idealize.ShloMosaic.TcCoe Idealize.SL.Sem

variable (m : (ℓ : Loc nD τ sig) → Buf (Elt Ideal) ℓ) (c : Dev nD)

abbrev aH : FVec Ideal SH .f32 := m ((c.tc : Thread nD τ).loc main_arg0)
abbrev aN : FVec Ideal SN .f32 := m ((c.tc : Thread nD τ).loc main_arg1)
abbrev aW : FVec Ideal SW .f32 := m ((c.tc : Thread nD τ).loc main_arg2)
abbrev aG : FVec Ideal SG .f32 := m ((c.tc : Thread nD τ).loc main_arg3)
abbrev aS : FVec Ideal SS .f32 := m ((c.tc : Thread nD τ).loc main_arg4)
abbrev aB : FVec Ideal SB .f32 := m ((c.tc : Thread nD τ).loc main_arg5)

/-! ## What the host lays out -/

theorem rows_in : V m c main_arg0 = aH m c := by
  unfold V
  after_reads_simp

theorem norm_in (k : Fin 4096) : (show Vec Ideal S1x4096 .f32 from V m c main_v16) (ix2 0 k) = aN m c (ix2 0 k) := by
  unfold V
  after_reads_at

/-- The weights, transposed. -/
theorem wide_in (p : Fin 14400) (k : Fin 4096) : (show Vec Ideal S14400x4096 .bf16 from V m c main_v2) (ix2 p k) = aW m c (ix3 0 k p) := by
  unfold V
  after_reads_at

/-- The narrow weights: the two mixers' thirty-two columns each, then zeros. -/
theorem narrow_in (p : Fin 128) (k : Fin 4096) : (show Vec Ideal S128x4096 .bf16 from V m c main_v6) (ix2 p k)
    = if h1 : p.val < 32 then aW m c (ix3 0 k ⟨8192 + p.val, by omega⟩)
      else if h2 : p.val < 64 then aW m c (ix3 0 k ⟨14368 + (p.val - 32), by omega⟩) else 0 := by
  unfold V
  after_reads_at
  by_cases h1 : p.val < 32
  · rw [dif_pos h1, dif_pos (by omega), dif_pos h1]
    unfold StableHlo.upto
    after_reads_at
  · rw [dif_neg h1]
    by_cases h2 : p.val < 64
    · rw [dif_pos h2, dif_pos h2, dif_neg h1]
      unfold StableHlo.upto
      after_reads_at
    · rw [dif_neg h2, dif_neg h2]
      show (((0#32 : BitVec 32).toInt : ℝ) : EReal) = 0
      simp

theorem bias_in_zero (j : Fin 14336) (h : j.val < 10240) : (show Vec Ideal S1x14336 .f32 from V m c main_v14) (ix2 0 j) = 0 := by
  unfold V
  after_reads_at
  rw [dif_pos h]
  after_reads_at

theorem bias_in (j : Fin 14336) (h : ¬ j.val < 10240) :
    (show Vec Ideal S1x14336 .f32 from V m c main_v14) (ix2 0 j) = aB m c (ix2 0 ⟨j.val - 10240, by omega⟩) := by
  unfold V
  after_reads_at
  rw [dif_neg h]
  after_reads_at

theorem conv_in_first (k : Fin 4) (j : Fin 14336) (h : j.val < 6144) :
    (show Vec Ideal S4x14336 .f32 from V m c main_v10) (ix2 k j) = aG m c (ix3 0 k ⟨j.val, by omega⟩) := by
  unfold V
  after_reads_at
  rw [dif_pos h]
  refine (congrFun (StableHlo.reshape_result ..) _).trans ?_
  after_reads_at

theorem conv_in_last (k : Fin 4) (j : Fin 14336) (h : ¬ j.val < 10240) :
    (show Vec Ideal S4x14336 .f32 from V m c main_v10) (ix2 k j) = aS m c (ix3 0 k ⟨j.val - 10240, by omega⟩) := by
  unfold V
  after_reads_at
  rw [dif_neg (by omega), dif_neg (by omega)]
  refine (congrFun (StableHlo.reshape_result ..) _).trans ?_
  after_reads_at
  exact congrArg (fun x => aS m c (ix3 0 k x)) (Fin.ext (by show j.val - 6144 - 4096 = j.val - 10240; omega))

/-! ## The blocks -/

theorem idx : ∀ t : Fin cfg0.N,
    win0_0.index t = ![t.val / 14, 0] ∧ win0_1.index t = ![t.val / 14 * 32 - 1, 0] ∧ win0_2.index t = ![0, 0]
    ∧ win0_3.index t = ![t.val % 14 * 1024 + (if 8 ≤ t.val % 14 then 32 else 0), 0] ∧ win0_4.index t = ![0, 0]
    ∧ win0_5.index t = ![0, t.val % 14] ∧ win0_6.index t = ![0, t.val % 14] ∧ win0_7.index t = ![t.val / 14, t.val % 14] ∧ win0_8.index t = ![t.val / 14, 0] :=
  (by decide +kernel : ∀ t : Fin grid0.N, _)

/-- The column of the weights, and of the result, under a lane of a point's tile. -/
def wcol (t : Fin cfg0.N) (j : Fin 1024) : Fin 14400 := ⟨t.val % 14 * 1024 + (if 8 ≤ t.val % 14 then 32 else 0) + j.val, by split <;> omega⟩
def jcol (t : Fin cfg0.N) (j : Fin 1024) : Fin 14336 := ⟨t.val % 14 * 1024 + j.val, by omega⟩

theorem block3 (t : Fin cfg0.N) (j : Fin 1024) (k : Fin 4096) :
    (show Vec Ideal S1024x4096 .bf16 from iblk m c 3 t) (ix2 j k) = aW m c (ix3 0 k (wcol t j)) := by
  rw [← wide_in]
  blk_point [iblk, wcol, idx t]
  · refine (show _ = win0_3.index t 0 + j.val from Rect.idx_unit_val ..).trans ?_
    rw [(idx t).2.2.2.1]; rfl
  · refine (show _ = win0_3.index t 1 + k.val from Rect.idx_unit_val ..).trans ?_
    rw [(idx t).2.2.2.1]; exact Nat.zero_add _

theorem block4 (t : Fin cfg0.N) (j : Fin 128) (k : Fin 4096) :
    (show Vec Ideal S128x4096 .bf16 from iblk m c 4 t) (ix2 j k) = (show Vec Ideal S128x4096 .bf16 from V m c main_v6) (ix2 j k) := by
  blk_point [iblk, idx t]

theorem block5 (t : Fin cfg0.N) (k : Fin 4) (j : Fin 1024) :
    (show Vec Ideal S4x1024 .f32 from iblk m c 5 t) (ix2 k j) = (show Vec Ideal S4x14336 .f32 from V m c main_v10) (ix2 k (jcol t j)) := by
  blk_point [iblk, jcol, idx t]

theorem block6 (t : Fin cfg0.N) (j : Fin 1024) :
    (show Vec Ideal S1x1024 .f32 from iblk m c 6 t) (ix2 0 j) = (show Vec Ideal S1x14336 .f32 from V m c main_v14) (ix2 0 (jcol t j)) := by
  blk_point [iblk, jcol, idx t]

theorem block0 (t : Fin cfg0.N) (q : Fin 32) (ht : t.val / 14 = q.val) (l : Fin 512) (k : Fin 4096) :
    (show Vec Ideal S512x4096 .f32 from iblk m c 0 t) (ix2 l k) = aH m c (ix2 (⟨q.val * 512 + l.val, by omega⟩ : Fin 16384) k) := by
  rw [← rows_in]
  blk_point [iblk, idx t]

theorem block1 (t : Fin cfg0.N) (q : Fin 32) (ht : t.val / 14 = q.val) (h0 : q.val ≠ 0) (l : Fin 16) (k : Fin 4096) :
    (show Vec Ideal S16x4096 .f32 from iblk m c 1 t) (ix2 l k) = aH m c (ix2 (⟨q.val * 512 + l.val - 16, by omega⟩ : Fin 16384) k) := by
  rw [← rows_in]
  blk_point [iblk, idx t]

theorem block2 (t : Fin cfg0.N) (k : Fin 4096) : (show Vec Ideal S1x4096 .f32 from iblk m c 2 t) (ix2 0 k) = aN m c (ix2 0 k) := by
  rw [← norm_in]
  blk_point [iblk, idx t]

/-! ## The carried rows and the products -/

theorem fill_at (f : Fin cfg0.N) (q : Fin 32) (hq : f.val / 14 = q.val) (r : Fin 528) (k : Fin 4096) :
    fill q (iblk m c 0 f) (iblk m c 1 f) (iblk m c 2 f) (ix2 r k) = if q.val % 16 = 0 ∧ r.val < 16 then 0
      else hn (aH m c) (aN m c) ⟨q.val * 512 + r.val - 16, by omega⟩ k := by
  unfold fill hn
  by_cases h : 16 ≤ r.val
  · rw [if_neg (by omega)]
    refine (dif_pos h).trans ?_
    dsimp only
    congr 1
    · funext k'
      refine (block0 m c f q hq _ k').trans (congrArg (fun z => aH m c (ix2 z k')) (Fin.ext ?_))
      show q.val * 512 + (r.val - 16) = q.val * 512 + r.val - 16
      omega
    · exact block2 m c f k
  · refine (dif_neg h).trans ?_
    dsimp only
    by_cases h0 : q.val % 16 = 0
    · rw [if_pos h0, if_pos ⟨h0, by omega⟩]
    · rw [if_neg h0, if_neg (fun x => h0 x.1)]
      congr 1
      · funext k'
        exact block1 m c f q hq (fun x => h0 (by rw [x])) _ k'
      · exact block2 m c f k

theorem rows_at (t : Fin cfg0.N) (r : Fin 528) (k : Fin 4096) :
    rows m c t (ix2 r k) = if (blockOf t).val % 16 = 0 ∧ r.val < 16 then 0
      else hn (aH m c) (aN m c) ⟨(blockOf t).val * 512 + r.val - 16, by have := (blockOf t).isLt; omega⟩ k :=
  fill_at m c (first t) (blockOf t) (by show t.val / 14 * 14 / 14 = t.val / 14; omega) r k

theorem dot_at (t : Fin cfg0.N) (r : Fin 528) (j : Fin 1024) :
    dot (rows m c t) (iblk m c 3 t) r j = if (blockOf t).val % 16 = 0 ∧ r.val < 16 then 0
      else prod (aH m c) (aN m c) (aW m c) ⟨(blockOf t).val * 512 + r.val - 16, by have := (blockOf t).isLt; omega⟩ (wcol t j) := by
  unfold dot prod
  by_cases h : (blockOf t).val % 16 = 0 ∧ r.val < 16
  · rw [if_pos h]
    refine Finset.sum_eq_zero fun k _ => ?_
    rw [rows_at, if_pos h, zero_mul]
  · rw [if_neg h]
    refine Finset.sum_congr rfl fun k _ => ?_
    rw [rows_at, if_neg h]
    exact congrArg _ (block3 m c t j k)

/-- The sequence and the place in it of a block's row. -/
def seq (t : Fin cfg0.N) : Fin 2 := ⟨(blockOf t).val / 16, by have := (blockOf t).isLt; omega⟩
def pos (t : Fin cfg0.N) (l : Fin 512) : Fin 8192 := ⟨(blockOf t).val % 16 * 512 + l.val, by omega⟩

theorem own_prod (t : Fin cfg0.N) (l : Fin 512) (j : Fin 1024) :
    dot (rows m c t) (iblk m c 3 t) ⟨16 + l.val, by omega⟩ j = prod (aH m c) (aN m c) (aW m c) (rowOf (seq t) (pos t l)) (wcol t j) := by
  rw [dot_at, if_neg (by dsimp only; omega)]
  apply prod_congr
  · show (blockOf t).val * 512 + (16 + l.val) - 16 = (blockOf t).val / 16 * 8192 + ((blockOf t).val % 16 * 512 + l.val)
    omega
  · rfl

theorem tap_at (t : Fin cfg0.N) (l : Fin 512) (j : Fin 1024) (r : Fin 528) (s : Fin 8195) (e : ℕ) (he : e < 4) (hr : r.val = 13 + e + l.val)
    (hs : s.val = e + (pos t l).val) :
    dot (rows m c t) (iblk m c 3 t) r j = padded (aH m c) (aN m c) (aW m c) (seq t) s (wcol t j) := by
  change s.val = e + ((blockOf t).val % 16 * 512 + l.val) at hs
  rw [dot_at]
  unfold padded
  by_cases h : 3 ≤ s.val
  · rw [dif_pos h, if_neg (by omega)]
    apply prod_congr
    · show (blockOf t).val * 512 + r.val - 16 = (blockOf t).val / 16 * 8192 + (s.val - 3)
      omega
    · rfl
  · rw [dif_neg h, if_pos (by omega)]

/-- The convolution's numbers under a lane. -/
abbrev taps4 (j : Fin 14336) (k : Fin 4) : EReal := (show Vec Ideal S4x14336 .f32 from V m c main_v10) (ix2 k j)
abbrev bias (j : Fin 14336) : EReal := (show Vec Ideal S1x14336 .f32 from V m c main_v14) (ix2 0 j)

theorem reorder (b x0 x1 x2 x3 : EReal) : b + x3 + x0 + x1 + x2 = x0 + x1 + x2 + x3 + b := by abel

theorem taps_at (t : Fin cfg0.N) (l : Fin 512) (j : Fin 1024) :
    taps (rows m c t) (iblk m c 3 t) (iblk m c 5 t) (iblk m c 6 t) l j
      = silu (conv (aH m c) (aN m c) (aW m c) (taps4 m c (jcol t j)) (seq t) (pos t l) (wcol t j) + bias m c (jcol t j)) := by
  unfold taps conv
  rw [tap_at m c t l j ⟨13 + l.val, by omega⟩ ⟨(pos t l).val, by omega⟩ 0 (by omega) (by show 13 + l.val = 13 + 0 + l.val; omega) (by dsimp only; omega),
    tap_at m c t l j ⟨14 + l.val, by omega⟩ ⟨1 + (pos t l).val, by omega⟩ 1 (by omega) (by show 14 + l.val = 13 + 1 + l.val; omega) (by dsimp only),
    tap_at m c t l j ⟨15 + l.val, by omega⟩ ⟨2 + (pos t l).val, by omega⟩ 2 (by omega) (by show 15 + l.val = 13 + 2 + l.val; omega) (by dsimp only),
    tap_at m c t l j ⟨16 + l.val, by omega⟩ ⟨3 + (pos t l).val, by omega⟩ 3 (by omega) (by show 16 + l.val = 13 + 3 + l.val; omega) (by dsimp only)]
  rw [show iblk m c 6 t (ix2 0 j) = bias m c (jcol t j) from block6 m c t j, show iblk m c 5 t (ix2 0 j) = taps4 m c (jcol t j) 0 from block5 m c t 0 j,
    show iblk m c 5 t (ix2 1 j) = taps4 m c (jcol t j) 1 from block5 m c t 1 j, show iblk m c 5 t (ix2 2 j) = taps4 m c (jcol t j) 2 from block5 m c t 2 j,
    show iblk m c 5 t (ix2 3 j) = taps4 m c (jcol t j) 3 from block5 m c t 3 j]
  exact congrArg silu (reorder _ _ _ _ _)

theorem taps_first (t : Fin cfg0.N) (l : Fin 512) (j : Fin 1024) (h : (jcol t j).val < 6144) :
    taps (rows m c t) (iblk m c 3 t) (iblk m c 5 t) (iblk m c 6 t) l j
      = qkv (aH m c) (aN m c) (aW m c) (aG m c) (seq t) (pos t l) ⟨(jcol t j).val, h⟩ := by
  rw [taps_at]
  unfold qkv
  rw [show bias m c (jcol t j) = 0 from bias_in_zero m c _ (by omega), add_zero,
    show taps4 m c (jcol t j) = fun k => aG m c (ix3 0 k ⟨(jcol t j).val, h⟩) from funext fun k => conv_in_first m c k _ h]
  change t.val % 14 * 1024 + j.val < 6144 at h
  rw [show wcol t j = ⟨(jcol t j).val, by omega⟩ from Fin.ext (by
    show t.val % 14 * 1024 + (if 8 ≤ t.val % 14 then 32 else 0) + j.val = t.val % 14 * 1024 + j.val; rw [if_neg (by omega)]; rfl)]

theorem taps_last (t : Fin cfg0.N) (l : Fin 512) (j : Fin 1024) (h : ¬ (jcol t j).val < 10240) :
    taps (rows m c t) (iblk m c 3 t) (iblk m c 5 t) (iblk m c 6 t) l j
      = xbc (aH m c) (aN m c) (aW m c) (aS m c) (aB m c) (seq t) (pos t l) ⟨(jcol t j).val - 10240, by omega⟩ := by
  rw [taps_at]
  unfold xbc
  rw [show bias m c (jcol t j) = _ from bias_in m c _ h,
    show taps4 m c (jcol t j) = fun k => aS m c (ix3 0 k ⟨(jcol t j).val - 10240, by omega⟩) from funext fun k => conv_in_last m c k _ h]
  change ¬ t.val % 14 * 1024 + j.val < 10240 at h
  rw [show wcol t j = ⟨10272 + ((jcol t j).val - 10240), by omega⟩ from Fin.ext (by
    show t.val % 14 * 1024 + (if 8 ≤ t.val % 14 then 32 else 0) + j.val = 10272 + (t.val % 14 * 1024 + j.val - 10240)
    rw [if_pos (by omega)]; omega)]

/-! ## The tiles -/

theorem qk_at : ∀ a : Fin 14, isQk (BitVec.ofNat 32 a.val) = if a.val < 4 then 1#1 else 0#1 := by decide
theorem query_at : ∀ a : Fin 14, Scalar.cmpi .slt (BitVec.ofNat 32 a.val) 2#32 = if a.val < 2 then 1#1 else 0#1 := by decide

theorem scale_at (a : Fin 14) : k0_pay10 (F := Ideal) (BitVec.ofNat 32 a.val) = if a.val < 2 then Ideal.ofBits .f32 0x3DB504F3#32 else Ideal.ofBits .f32 0x3F800000#32 := by
  unfold k0_pay10
  rw [query_at a]
  by_cases h : a.val < 2
  · rw [if_pos h, if_pos h]; rfl
  · rw [if_neg h, if_neg h]; rfl

theorem one_val : Ideal.ofBits .f32 0x3F800000#32 = 1 := by
  pointwise

theorem sel_one (x y : EReal) : Scalar.select 1#1 x y = x := rfl
theorem sel_zero (x y : EReal) : Scalar.select 0#1 x y = y := rfl

/-- The norm over a head's lanes. -/
theorem head_at (t : Fin cfg0.N) (l : Fin 512) (j : Fin 1024) (h : t.val % 14 < 4) :
    taps (rows m c t) (iblk m c 3 t) (iblk m c 5 t) (iblk m c 6 t) l j * Ideal.rsqrt ((∑ k : Fin 128,
      taps (rows m c t) (iblk m c 3 t) (iblk m c 5 t) (iblk m c 6 t) l ⟨j.val / 128 * 128 + k.val, by omega⟩
        * taps (rows m c t) (iblk m c 3 t) (iblk m c 5 t) (iblk m c 6 t) l ⟨j.val / 128 * 128 + k.val, by omega⟩) + Ideal.ofBits .f32 0x358637BD#32)
      = normed (aH m c) (aN m c) (aW m c) (aG m c) (seq t) (pos t l) ⟨(jcol t j).val, by show t.val % 14 * 1024 + j.val < 4096; omega⟩ := by
  have hj : (jcol t j).val = t.val % 14 * 1024 + j.val := rfl
  have hs : ∀ k : Fin 128, taps (rows m c t) (iblk m c 3 t) (iblk m c 5 t) (iblk m c 6 t) l ⟨j.val / 128 * 128 + k.val, by omega⟩
      = qkv (aH m c) (aN m c) (aW m c) (aG m c) (seq t) (pos t l) ⟨(jcol t j).val / 128 * 128 + k.val, by omega⟩ := fun k => by
    refine (taps_first m c t l ⟨j.val / 128 * 128 + k.val, by omega⟩ (by show t.val % 14 * 1024 + (j.val / 128 * 128 + k.val) < 6144; omega)).trans ?_
    apply qkv_congr _ _ _ _ _ _ _ _ _ _ rfl rfl
    show t.val % 14 * 1024 + (j.val / 128 * 128 + k.val) = (t.val % 14 * 1024 + j.val) / 128 * 128 + k.val
    omega
  simp only [hs]
  rw [taps_first m c t l j (by omega)]
  unfold normed
  rfl

/-- A point's tile holds the wide result. -/
theorem tile_at (t : Fin cfg0.N) (l : Fin 512) (j : Fin 1024) :
    tile m c t (ix2 l j) = out (aH m c) (aN m c) (aW m c) (aG m c) (aS m c) (aB m c) (seq t) (pos t l) (jcol t j) := by
  have ht : t.val % 14 < 14 := by omega
  have hj : (jcol t j).val = t.val % 14 * 1024 + j.val := rfl
  unfold tile out
  by_cases hp : 6 ≤ t.val % 14 ∧ t.val % 14 ≤ 9
  · rw [if_pos hp, dif_neg (by omega), dif_neg (by omega), dif_neg (by omega)]
    refine (own_prod m c t l j).trans ?_
    by_cases h8 : 8 ≤ t.val % 14
    · rw [dif_neg (by omega), dif_pos (by omega)]
      apply prod_congr _ _ _ _ _ _ _ rfl
      show t.val % 14 * 1024 + (if 8 ≤ t.val % 14 then 32 else 0) + j.val = 32 + (t.val % 14 * 1024 + j.val)
      rw [if_pos h8]; omega
    · rw [dif_pos (by omega)]
      apply prod_congr _ _ _ _ _ _ _ rfl
      show t.val % 14 * 1024 + (if 8 ≤ t.val % 14 then 32 else 0) + j.val = t.val % 14 * 1024 + j.val
      rw [if_neg h8]; rfl
  rw [if_neg hp]
  show lane (isQk (BitVec.ofNat 32 (grid0.coords t 1).val)) (k0_pay10 (F := Ideal) (BitVec.ofNat 32 (grid0.coords t 1).val)) (rows m c t) (iblk m c 3 t) (iblk m c 5 t) (iblk m c 6 t)
    l (j.val / 128 * 128) (by omega) ⟨j.val % 128, by omega⟩ = _
  rw [col_at t, show isQk (BitVec.ofNat 32 (t.val % 14)) = _ from qk_at ⟨t.val % 14, ht⟩,
    show k0_pay10 (F := Ideal) (BitVec.ofNat 32 (t.val % 14)) = _ from scale_at ⟨t.val % 14, ht⟩]
  dsimp only
  unfold lane factor
  have ej : (⟨j.val / 128 * 128 + j.val % 128, by omega⟩ : Fin 1024) = j := Fin.ext (by show j.val / 128 * 128 + j.val % 128 = j.val; omega)
  rw [ej]
  by_cases h4 : t.val % 14 < 4
  · rw [if_pos h4, sel_one, ← mul_assoc, head_at m c t l j h4]
    by_cases h2 : t.val % 14 < 2
    · rw [if_pos h2, dif_pos (by omega)]
    · rw [if_neg h2, dif_neg (by omega), dif_pos (by omega), one_val, mul_one]
  rw [if_neg h4, sel_zero, mul_one, dif_neg (by omega), dif_neg (by omega)]
  by_cases h6 : t.val % 14 < 6
  · rw [dif_pos (by omega)]
    exact taps_first m c t l j (by omega)
  · rw [dif_neg (by omega), dif_neg (by omega), dif_neg (by omega)]
    exact taps_last m c t l j (by omega)

/-- A block's narrow product holds the narrow result. -/
theorem small_at' (t : Fin cfg0.N) (l : Fin 512) (j : Fin 128) :
    small m c t (ix2 l j) = narrow (aH m c) (aN m c) (aW m c) (rowOf (seq t) (pos t l)) j := by
  have e : ∀ k : Fin 4096, rows m c t (ix2 (⟨16 + l.val, by omega⟩ : Fin 528) k) = hn (aH m c) (aN m c) (rowOf (seq t) (pos t l)) k := fun k => by
    rw [rows_at, if_neg (by dsimp only; omega)]
    refine congrArg (fun i => hn (aH m c) (aN m c) i k) (Fin.ext ?_)
    show (blockOf t).val * 512 + (16 + l.val) - 16 = (blockOf t).val / 16 * 8192 + ((blockOf t).val % 16 * 512 + l.val)
    omega
  have e4 : ∀ k : Fin 4096, (show Vec Ideal S128x4096 .bf16 from iblk m c 4 (first t)) (ix2 j k) = _ := fun k => (block4 m c (first t) j k).trans (narrow_in m c j k)
  unfold small smallOut narrow prod
  show (∑ k : Fin 4096, rows m c t (ix2 (⟨16 + l.val, by omega⟩ : Fin 528) k) * (show Vec Ideal S128x4096 .bf16 from iblk m c 4 (first t)) (ix2 j k)) = _
  simp only [e]
  by_cases h1 : j.val < 32
  · rw [dif_pos h1]
    exact Finset.sum_congr rfl fun k _ => congrArg _ ((e4 k).trans (dif_pos h1))
  rw [dif_neg h1]
  by_cases h2 : j.val < 64
  · rw [dif_pos h2]
    exact Finset.sum_congr rfl fun k _ => congrArg _ ((e4 k).trans ((dif_neg h1).trans (dif_pos h2)))
  · rw [dif_neg h2]
    exact Finset.sum_eq_zero fun k _ => (congrArg _ ((e4 k).trans ((dif_neg h1).trans (dif_neg h2)))).trans (mul_zero _)

/-! ## The result arrays -/

def wide : Vec Ideal S16384x14336 .f32 := fun y =>
  out (aH m c) (aN m c) (aW m c) (aG m c) (aS m c) (aB m c)
    (⟨(y 0).val / 8192, by have := (y 0).isLt; change (y 0).val < 16384 at this; omega⟩ : Fin 2) (⟨(y 0).val % 8192, by omega⟩ : Fin 8192) (y 1)

def slim : Vec Ideal S16384x128 .f32 := fun y => narrow (aH m c) (aN m c) (aW m c) (y 0) (y 1)

theorem out_congr (b b' : Fin 2) (s s' : Fin 8192) (j j' : Fin 14336) (hb : b.val = b'.val) (hs : s.val = s'.val) (hj : j.val = j'.val) :
    out (aH m c) (aN m c) (aW m c) (aG m c) (aS m c) (aB m c) b s j = out (aH m c) (aN m c) (aW m c) (aG m c) (aS m c) (aB m c) b' s' j' := by
  rw [Fin.ext hb, Fin.ext hs, Fin.ext hj]

theorem narrow_congr (i i' : Fin 16384) (j j' : Fin 128) (hi : i.val = i'.val) (hj : j.val = j'.val) :
    narrow (aH m c) (aN m c) (aW m c) i j = narrow (aH m c) (aN m c) (aW m c) i' j' := by
  rw [Fin.ext hi, Fin.ext hj]

theorem final7 : (dats m 0 c).arrAt 7 cfg0.N = wide m c := by
  refine (dats m 0 c).arrAt_eq_of_covers 7 (wide m c) (by decide +kernel) fun t hf y => ?_
  blk_simp
  rw [after7]
  idx_vars y
  have hN := point_lt t
  refine (tile_at m c t y0 y1).trans ?_
  unfold wide
  apply out_congr
  have h0 : y0.val < 512 := y0.isLt
  have h1 : y1.val < 1024 := y1.isLt
  all_goals (blk_simp [idx t, seq, pos, jcol, blockOf]; try (dsimp only; omega))

theorem final8 : (dats m 0 c).arrAt 8 cfg0.N = slim m c := by
  refine (dats m 0 c).arrAt_eq_of_covers 8 (slim m c) (by decide +kernel) fun t hf y => ?_
  blk_simp
  rw [after8]
  idx_vars y
  have hN := point_lt t
  refine (small_at' m c t y0 y1).trans ?_
  unfold slim
  apply narrow_congr
  have h0 : y0.val < 512 := y0.isLt
  have h1 : y1.val < 128 := y1.isLt
  all_goals (blk_simp [idx t, seq, pos, rowOf, blockOf]; try (dsimp only; omega))

end Cert.Kernel5Ideal.InProj

end
-- ==== Proof.Prep.lean ====
/-
  The gates and decays: from the narrow columns of the input projection the kernel makes the mixing gates, the step sizes, and the
  running sums of the log decays within chunks of sixty-four rows; it sums by multiplying with a matrix of zeros and ones, where the
  reference takes a cumulative sum.
-/
module

public import proofs.«01_k».proof.Proof.Gen.Kernel6.Frame
public import proofs.«01_k».proof.Proof.Gen.Kernel6Ideal.Value
public import proofs.«01_k».proof.Proof.Gen.Reference6Ideal.Read
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem

namespace Cert.Prep

abbrev SX : Shape := ⟨_, ![16384, 128]⟩
abbrev SA : Shape := ⟨_, ![1, 16]⟩
abbrev SB : Shape := ⟨_, ![1, 32]⟩
abbrev SK : Shape := ⟨_, ![256, 64, 112]⟩

/-- The two mixers' numbers side by side, then zeros. -/
def par (a : FVec Ideal SA .f32) (b : FVec Ideal SB .f32) (k : Fin 112) : EReal :=
  if h : k.val < 16 then a (ix2 0 ⟨k.val, h⟩) else if h' : k.val < 48 then b (ix2 0 ⟨k.val - 16, by omega⟩) else 0

def softplus (x : EReal) : EReal := max x 0 + Ideal.log (1 + Ideal.exp (-FloatOps.absf (F := Ideal) (φ := .f32) x))

def gate (x : EReal) : EReal := Ideal.div 1 (1 + Ideal.exp (-x))

/-- The sum of the terms up to the `l`-th. -/
def upTo (f : Fin 64 → EReal) (l : Fin 64) : EReal := ∑ e : Fin 64, if e.val ≤ l.val then f e else 0

variable (x : FVec Ideal SX .f32) (ga gd : FVec Ideal SA .f32) (sa sd : FVec Ideal SB .f32)

/-- The step size of a row, in the columns after the gates. -/
def dt (i : Fin 16384) (k : Fin 112) : EReal := softplus (x (ix2 i ⟨16 + k.val, by omega⟩) + par gd sd k)

/-- The log decay of a row. -/
def decay (i : Fin 16384) (k : Fin 112) : EReal := dt x gd sd i k * -Ideal.exp (par ga sa k)

/-- The log decays of the row's chunk, summed up to the row. -/
def acs (i : Fin 16384) (k : Fin 112) : EReal :=
  upTo (fun e => decay x ga gd sa sd ⟨i.val / 64 * 64 + e.val, by omega⟩ k) ⟨i.val % 64, by omega⟩

def first (i : Fin 16384) (j : Fin 128) : EReal :=
  if j.val < 16 then gate (x (ix2 i j))
  else if j.val < 32 then acs x ga gd sa sd i ⟨j.val - 16, by omega⟩ else dt x gd sd i ⟨j.val - 16, by omega⟩

def second (i : Fin 16384) (j : Fin 128) : EReal := if j.val < 16 then 0 else acs x ga gd sa sd i ⟨j.val - 16, by omega⟩

theorem first_congr {i i' : Fin 16384} {j j' : Fin 128} (hi : i.val = i'.val) (hj : j.val = j'.val) :
    first x ga gd sa sd i j = first x ga gd sa sd i' j' := by
  rw [Fin.ext hi, Fin.ext hj]

theorem second_congr {i i' : Fin 16384} {j j' : Fin 128} (hi : i.val = i'.val) (hj : j.val = j'.val) :
    second x ga gd sa sd i j = second x ga gd sa sd i' j' := by
  rw [Fin.ext hi, Fin.ext hj]

/-! ## The two ways of summing -/

theorem foldl_add {ι : Type} (g : ι → EReal) (l : List ι) : ∀ a : EReal, l.foldl (fun r n => r + g n) a = a + (l.map g).sum := by
  induction l with
  | nil => intro a; simp
  | cons n l ih => intro a; rw [List.foldl_cons, ih, List.map_cons, List.sum_cons, add_assoc]

abbrev SWin : Shape := ⟨3, ![1, 64, 1]⟩

/-- The places of a window of sixty-four rows. -/
def place : Fin 64 ≃ SWin.Idx where
  toFun e := ix3 0 e 0
  invFun i := i 1
  left_inv e := rfl
  right_inv i := funext fun a => match a with
    | 0 => Subsingleton.elim (α := Fin 1) _ _
    | 1 => rfl
    | 2 => Subsingleton.elim (α := Fin 1) _ _

/-- One place of the window: the padding before the first row counts nothing. -/
theorem window_term (y : SK.Idx → EReal) (b : Fin 256) (l : Fin 64) (k : Fin 112) (e : Fin 64) (w : SWin.Idx) (hw : w = place e)
    (inst : Decidable (∀ a : Fin 3, (![0, 63, 0] : Fin 3 → ℕ) a ≤ (ix3 b l k a).val * (![1, 1, 1] : Fin 3 → ℕ) a + (w a).val
        ∧ (ix3 b l k a).val * (![1, 1, 1] : Fin 3 → ℕ) a + (w a).val - (![0, 63, 0] : Fin 3 → ℕ) a < SK.size a)) :
    (if hin : ∀ a : Fin 3, (![0, 63, 0] : Fin 3 → ℕ) a ≤ (ix3 b l k a).val * (![1, 1, 1] : Fin 3 → ℕ) a + (w a).val
        ∧ (ix3 b l k a).val * (![1, 1, 1] : Fin 3 → ℕ) a + (w a).val - (![0, 63, 0] : Fin 3 → ℕ) a < SK.size a
      then y (fun a => ⟨(ix3 b l k a).val * (![1, 1, 1] : Fin 3 → ℕ) a + (w a).val - (![0, 63, 0] : Fin 3 → ℕ) a, (hin a).2⟩) else 0)
      = if (Equiv.addRight (l + 1) e).val ≤ l.val then y (ix3 b (Equiv.addRight (l + 1) e) k) else 0 := by
  subst hw
  have ev : (Equiv.addRight (l + 1) e).val = (e.val + (l.val + 1) % 64) % 64 := by
    rw [Equiv.coe_addRight, Fin.val_add, Fin.val_add]
    rfl
  by_cases hc : 63 ≤ l.val + e.val
  · rw [if_pos (by omega), dif_pos fun a => by
      match a with
      | 0 => exact ⟨Nat.zero_le _, by show b.val * 1 + 0 - 0 < 256; omega⟩
      | 1 => exact ⟨by show 63 ≤ l.val * 1 + e.val; omega, by show l.val * 1 + e.val - 63 < 64; omega⟩
      | 2 => exact ⟨Nat.zero_le _, by show k.val * 1 + 0 - 0 < 112; omega⟩]
    refine congrArg y (funext fun a => Fin.ext ?_)
    match a with
    | 0 => show b.val * 1 + 0 - 0 = b.val; omega
    | 1 => show l.val * 1 + e.val - 63 = (Equiv.addRight (l + 1) e).val; omega
    | 2 => show k.val * 1 + 0 - 0 = k.val; omega
  · rw [if_neg (by omega), dif_neg fun hin => hc (by
      have := (hin 1).1
      change 63 ≤ l.val * 1 + e.val at this
      omega)]

/-- The windowed sum that a cumulative sum along the middle axis is. -/
theorem window_sum (y : SK.Idx → EReal) (h : SK.ReduceWindows ![1, 64, 1] ![1, 1, 1] ![0, 63, 0] ![0, 0, 0] SK) (b : Fin 256) (l : Fin 64) (k : Fin 112) :
    Ideal.hostReduceWindowAdd ![1, 64, 1] ![1, 1, 1] ![0, 63, 0] ![0, 0, 0] h y 0 (ix3 b l k) = upTo (fun e => y (ix3 b e k)) l := by
  unfold Ideal.hostReduceWindowAdd Host.reduceWindow
  refine (foldl_add _ _ _).trans ?_
  rw [zero_add, ← Fin.sum_univ_def, ← Equiv.sum_comp (place.trans SWin.rowMajor)]
  unfold upTo
  rw [← Equiv.sum_comp (Equiv.addRight (l + 1)) (fun e : Fin 64 => if e.val ≤ l.val then y (ix3 b e k) else 0)]
  refine Finset.sum_congr rfl fun e _ => ?_
  exact window_term y b l k e _ (SWin.rowMajor.symm_apply_apply (place e)) _

/-- Two hundred and fifty-six rows as four chunks of sixty-four. -/
theorem chunk_sum (f : Fin 256 → EReal) (r : Fin 256) :
    (∑ q : Fin 256, if q.val / 64 = r.val / 64 ∧ q.val ≤ r.val then f q else 0)
      = upTo (fun e => f ⟨r.val / 64 * 64 + e.val, by omega⟩) ⟨r.val % 64, by omega⟩ := by
  rw [← Equiv.sum_comp (finProdFinEquiv (m := 4) (n := 64)), Fintype.sum_prod_type]
  rw [Finset.sum_eq_single (⟨r.val / 64, by omega⟩ : Fin 4)]
  · unfold upTo
    refine Finset.sum_congr rfl fun e _ => ?_
    have ev : (finProdFinEquiv ((⟨r.val / 64, by omega⟩ : Fin 4), e)).val = r.val / 64 * 64 + e.val := by
      show e.val + 64 * (r.val / 64) = _
      omega
    have hr := Nat.div_add_mod r.val 64
    rw [show finProdFinEquiv ((⟨r.val / 64, by omega⟩ : Fin 4), e) = (⟨r.val / 64 * 64 + e.val, by omega⟩ : Fin 256) from Fin.ext ev]
    refine if_congr ⟨fun hc => ?_, fun hc => ?_⟩ rfl rfl
    · have := hc.2
      change r.val / 64 * 64 + e.val ≤ r.val at this
      show e.val ≤ r.val % 64
      omega
    · change e.val ≤ r.val % 64 at hc
      exact ⟨by show (r.val / 64 * 64 + e.val) / 64 = r.val / 64; omega, by show r.val / 64 * 64 + e.val ≤ r.val; omega⟩
  · intro a _ ha
    refine Finset.sum_eq_zero fun e _ => if_neg fun hc => ha (Fin.ext ?_)
    have := hc.1
    change (e.val + 64 * a.val) / 64 = r.val / 64 at this
    show a.val = r.val / 64
    omega
  · intro ha
    exact absurd (Finset.mem_univ _) ha

end Cert.Prep

namespace Cert.Reference6Ideal.Prep

open Cert.Reference6Ideal Cert.Reference6Ideal.Gen Cert.Reference6Ideal.Read Cert.Prep

variable (x : FVec Ideal SX .f32) (ga gd : FVec Ideal SA .f32) (sa sd : FVec Ideal SB .f32)

theorem bias_val (k : Fin 112) : val_main_v11 (F := Ideal) gd sd (ix1 k) = par gd sd k := by
  unfold par
  pointwise [val_main_v11, val_main_v10, val_main_v9, val_main_v0, val_main_cst]
  by_cases h : k.val < 16
  · rw [dif_pos h, dif_pos h]
  · rw [dif_neg h, dif_neg h]
    by_cases h' : k.val < 48
    · rw [dif_pos h', dif_pos (by omega)]
    · rw [dif_neg h', dif_neg (by omega)]

theorem rate_val (k : Fin 112) : val_main_v18 (F := Ideal) ga sa (ix1 k) = par ga sa k := by
  unfold par
  pointwise [val_main_v18, val_main_v17, val_main_v16, val_main_v0, val_main_cst]
  by_cases h : k.val < 16
  · rw [dif_pos h, dif_pos h]
  · rw [dif_neg h, dif_neg h]
    by_cases h' : k.val < 48
    · rw [dif_pos h', dif_pos (by omega)]
    · rw [dif_neg h', dif_neg (by omega)]

theorem dt_val (i : Fin 16384) (k : Fin 112) : val_main_v15 (F := Ideal) x gd sd (ix2 i k) = dt x gd sd i k := by
  have e := bias_val gd sd k
  pointwise [val_main_v15, val_main_v14, val_main_v13, val_main_v12, val_main_v8, val_main_call0_v11, val_main_call0_v10, val_main_call0_v9, val_main_call0_v8,
    val_main_call0_v7, val_main_call0_v6, val_main_call0_v5, val_main_call0_v4, val_main_call0_v3, val_main_call0_v2, val_main_call0_v1, val_main_call0_v0,
    val_main_call0_cst]
  rw [e, if_neg fun hne => hne rfl]
  rfl

theorem decay_val (i : Fin 16384) (k : Fin 112) : val_main_v23 (F := Ideal) x ga gd sa sd (ix2 i k) = decay x ga gd sa sd i k := by
  have e := dt_val x gd sd i k
  have e' := rate_val ga sa k
  pointwise [val_main_v23, val_main_v22, val_main_v21, val_main_v20, val_main_v19]
  rw [e, e']
  rfl

/-- The running sums, row by row. -/
theorem acs_val (i : Fin 16384) (k : Fin 112) : val_main_v26 (F := Ideal) x ga gd sa sd (ix2 i k) = acs x ga gd sa sd i k := by
  have hi : i.val < 16384 := i.isLt
  have hk : k.val < 112 := k.isLt
  rw [val_main_v26_apply]
  rw [show idx_main_v26 (ix2 i k) = ix3 (⟨i.val / 64, by omega⟩ : Fin 256) (⟨i.val % 64, by omega⟩ : Fin 64) k from funext fun a => Fin.ext (by
    match a with
    | 0 => show (i.val * 112 + k.val) / 7168 = i.val / 64; omega
    | 1 => show (i.val * 112 + k.val) / 112 % 64 = i.val % 64; omega
    | 2 => show (i.val * 112 + k.val) % 112 = k.val; omega)]
  refine Eq.trans ?_ ((window_sum (val_main_v24 (F := Ideal) x ga gd sa sd) reduceWindows_S256x64x112_S256x64x112_w1s1p0_0_w64s1p63_0_w1s1p0_0
    (⟨i.val / 64, by omega⟩ : Fin 256) (⟨i.val % 64, by omega⟩ : Fin 64) k).trans ?_)
  · unfold val_main_v25 Host.reduceWindowAdd
    pointwise [val_main_call1_call0_v0, val_main_call1_call0_cst]
    rfl
  · unfold acs
    congr 1
    funext e
    rw [← decay_val, val_main_v24_apply]
    refine congrArg _ (funext fun a => Fin.ext ?_)
    match a with
    | 0 => show ((i.val / 64 * 64 + e.val) * 112 + k.val) / 112 = i.val / 64 * 64 + e.val; omega
    | 1 => show ((i.val / 64 * 64 + e.val) * 112 + k.val) % 112 = k.val; omega

theorem first_val (i : Fin 16384) (j : Fin 128) : val_main_v29 (F := Ideal) x ga gd sa sd (ix2 i j) = first x ga gd sa sd i j := by
  have e := fun k => acs_val x ga gd sa sd i k
  have e' := fun k => dt_val x gd sd i k
  pointwise [val_main_v29, val_main_v28, val_main_v27, val_main_v7, val_main_v6, val_main_cst_1, val_main_v5, val_main_v4, val_main_cst_0, val_main_v3, val_main_v2,
    val_main_v1]
  unfold first
  simp only [e, e']
  by_cases h : j.val < 16
  · rw [dif_pos h, if_pos h]
    rfl
  · rw [dif_neg h, if_neg h]
    by_cases h' : j.val < 32
    · rw [dif_pos (by omega), if_pos h']
    · rw [dif_neg (by omega), if_neg h']
      congr 1
      exact Fin.ext (by show 16 + (j.val - 16 - 16) = j.val - 16; omega)

theorem second_val (i : Fin 16384) (j : Fin 128) : val_main_v31 (F := Ideal) x ga gd sa sd (ix2 i j) = second x ga gd sa sd i j := by
  have e := fun k => acs_val x ga gd sa sd i k
  pointwise [val_main_v31, val_main_v30, val_main_cst_2]
  unfold second
  simp only [e]
  rfl

theorem third_val (j : Fin 128) (i : Fin 16384) : val_main_v32 (F := Ideal) x ga gd sa sd (ix2 j i) = second x ga gd sa sd i j := by
  rw [← second_val]
  pointwise [val_main_v32]

end Cert.Reference6Ideal.Prep

namespace Cert.Kernel6Ideal.Prep

open Cert.Kernel6Ideal Cert.Kernel6Ideal.Gen Cert.Prep

variable (m : (ℓ : Loc nD τ sig) → Buf (Elt Ideal) ℓ) (c : Dev nD)

abbrev aX : FVec Ideal SX .f32 := m ((c.tc : Thread nD τ).loc main_arg0)
abbrev aGa : FVec Ideal SA .f32 := m ((c.tc : Thread nD τ).loc main_arg1)
abbrev aGd : FVec Ideal SA .f32 := m ((c.tc : Thread nD τ).loc main_arg2)
abbrev aSa : FVec Ideal SB .f32 := m ((c.tc : Thread nD τ).loc main_arg3)
abbrev aSd : FVec Ideal SB .f32 := m ((c.tc : Thread nD τ).loc main_arg4)

theorem idx : ∀ t : Fin cfg0.N,
    win0_0.index t = ![t.val, 0] ∧ win0_1.index t = ![0, 0] ∧ win0_2.index t = ![0, 0] ∧ win0_3.index t = ![t.val, 0] ∧ win0_4.index t = ![t.val, 0]
    ∧ win0_5.index t = ![0, t.val] :=
  (by decide +kernel : ∀ t : Fin grid0.N, _)

/-- The row of the biases, as the host lays it out. -/
theorem bias_in (j : Fin 128) (h : ¬ j.val < 16) :
    (show Vec Ideal S1x128 .f32 from V m c main_v5) (ix2 0 j) = par (aGd m c) (aSd m c) ⟨j.val - 16, by omega⟩ := by
  unfold V
  after_reads_at
  by_cases h0 : j.val < 64
  · rw [dif_pos h0, dif_neg h]
    unfold par
    by_cases h1 : j.val - 16 < 16
    · rw [dif_pos h1, dif_pos h1]
      unfold StableHlo.upto
      after_reads_at
    · rw [dif_neg h1, dif_neg h1, dif_pos (by show j.val - 16 < 48; omega)]
      unfold StableHlo.upto
      after_reads_at
  · rw [dif_neg h0]
    unfold par
    rw [dif_neg (by show ¬ j.val - 16 < 16; omega), dif_neg (by show ¬ j.val - 16 < 48; omega)]
    show (((0#32 : BitVec 32).toInt : ℝ) : EReal) = 0
    simp

/-- The row of the rates' logarithms. -/
theorem rate_in (j : Fin 128) (h : ¬ j.val < 16) :
    (show Vec Ideal S1x128 .f32 from V m c main_v11) (ix2 0 j) = par (aGa m c) (aSa m c) ⟨j.val - 16, by omega⟩ := by
  unfold V
  after_reads_at
  by_cases h0 : j.val < 64
  · rw [dif_pos h0, dif_neg h]
    unfold par
    by_cases h1 : j.val - 16 < 16
    · rw [dif_pos h1, dif_pos h1]
      unfold StableHlo.upto
      after_reads_at
    · rw [dif_neg h1, dif_neg h1, dif_pos (by show j.val - 16 < 48; omega)]
      unfold StableHlo.upto
      after_reads_at
  · rw [dif_neg h0]
    unfold par
    rw [dif_neg (by show ¬ j.val - 16 < 16; omega), dif_neg (by show ¬ j.val - 16 < 48; omega)]
    show (((0#32 : BitVec 32).toInt : ℝ) : EReal) = 0
    simp

/-- The matrix of zeros and ones, as the program compares rows and columns. -/
theorem same_at : ∀ r q : Fin 256, IntOp.cmpi .eq (IntOp.shrsi .vector (BitVec.ofNat 32 r.val) 6#32) (IntOp.shrsi .vector (BitVec.ofNat 32 q.val) 6#32)
    = if q.val / 64 = r.val / 64 then 1#1 else 0#1 := by decide +kernel

theorem before_at : ∀ r q : Fin 256, IntOp.cmpi .sge (BitVec.ofNat 32 r.val) (BitVec.ofNat 32 q.val) = if q.val ≤ r.val then 1#1 else 0#1 := by decide +kernel

theorem lane_ge16 : ∀ j : Fin 128, IntOp.cmpi .sge (BitVec.ofNat 32 j.val) 16#32 = if j.val < 16 then 0#1 else 1#1 := by decide +kernel
theorem lane_lt16 : ∀ j : Fin 128, IntOp.cmpi .slt (BitVec.ofNat 32 j.val) 16#32 = if j.val < 16 then 1#1 else 0#1 := by decide +kernel
theorem lane_lt32 : ∀ j : Fin 128, IntOp.cmpi .slt (BitVec.ofNat 32 j.val) 32#32 = if j.val < 32 then 1#1 else 0#1 := by decide +kernel

theorem pay4_at (v0 : Vec Ideal S256x128 .f32) (v2 : Vec Ideal S1x128 .f32) (r : Fin 256) (j : Fin 128) :
    k0_pay4 v0 v2 (ix2 r j) = softplus (v0 (ix2 r j) + v2 (ix2 0 j)) := by
  pointwise [k0_pay4]
  rw [zero_sub]
  rfl

theorem pay5_at (v0 : Vec Ideal S256x128 .f32) (r : Fin 256) (j : Fin 128) : k0_pay5 v0 (ix2 r j) = gate (v0 (ix2 r j)) := by
  pointwise [k0_pay5]
  rw [zero_sub]
  rfl

theorem pay6_at (v0 : Vec Ideal S256x128 .f32) (v2 v23 : Vec Ideal S1x128 .f32) (r : Fin 256) (j : Fin 128) :
    k0_pay6 v0 v2 v23 (ix2 r j) = if j.val < 16 then 0 else softplus (v0 (ix2 r j) + v2 (ix2 0 j)) * -Ideal.exp (v23 (ix2 0 j)) := by
  have e := pay4_at v0 v2 r j
  pointwise [k0_pay6]
  rw [e, lane_ge16, zero_sub]
  split <;> rfl

theorem pay1_at (v33 : Vec Ideal S256x128 .f32) (r : Fin 256) (j : Fin 128) :
    k0_pay1 (F := Ideal) v33 k0_pay7 k0_pay8 (ix2 r j)
      = ∑ q : Fin 256, if q.val / 64 = r.val / 64 ∧ q.val ≤ r.val then v33 (ix2 q j) else 0 := by
  pointwise [k0_pay1, k0_pay7, k0_pay8]
  refine Finset.sum_congr rfl fun q _ => ?_
  rw [same_at, before_at]
  by_cases h : q.val / 64 = r.val / 64
  · rw [if_pos h]
    by_cases h' : q.val ≤ r.val
    · rw [if_pos h', if_pos ⟨h, h'⟩]; rfl
    · rw [if_neg h', if_neg fun hc => h' hc.2]; rfl
  · rw [if_neg h, if_neg fun hc : q.val / 64 = r.val / 64 ∧ q.val ≤ r.val => h hc.1]; rfl

theorem pay2_at (v15 v22 v33 : Vec Ideal S256x128 .f32) (r : Fin 256) (j : Fin 128) :
    k0_pay2 (F := Ideal) (iota .tc S256x128 32 [1] iota_S256x128_d1_w32) v15 v22 v33 k0_pay7 k0_pay8 (ix2 r j)
      = if j.val < 16 then v22 (ix2 r j) else if j.val < 32 then k0_pay1 (F := Ideal) v33 k0_pay7 k0_pay8 (ix2 r j) else v15 (ix2 r j) := by
  generalize e : k0_pay1 (F := Ideal) v33 k0_pay7 k0_pay8 = s
  unfold k0_pay2
  rw [e]
  pointwise []
  rw [lane_lt16, lane_lt32]
  split <;> (first | rfl | (split <;> rfl))

/-! ## The blocks -/

abbrev row (t : Fin cfg0.N) (r : Fin 256) : Fin 16384 := ⟨t.val * 256 + r.val, by have := t.isLt; change t.val < 64 at this; omega⟩

theorem x_blk (t : Fin cfg0.N) (r : Fin 256) (j : Fin 128) : (show Vec Ideal S256x128 .f32 from iblk m c 0 t) (ix2 r j) = aX m c (ix2 (row t r) j) := by
  blk_point [iblk, idx t]

theorem bias_blk (t : Fin cfg0.N) (j : Fin 128) (h : ¬ j.val < 16) :
    (show Vec Ideal S1x128 .f32 from iblk m c 1 t) (ix2 0 j) = par (aGd m c) (aSd m c) ⟨j.val - 16, by omega⟩ := by
  rw [← bias_in m c j h]
  blk_point [iblk, idx t]

theorem rate_blk (t : Fin cfg0.N) (j : Fin 128) (h : ¬ j.val < 16) :
    (show Vec Ideal S1x128 .f32 from iblk m c 2 t) (ix2 0 j) = par (aGa m c) (aSa m c) ⟨j.val - 16, by omega⟩ := by
  rw [← rate_in m c j h]
  blk_point [iblk, idx t]

/-- The step sizes at a point. -/
theorem dt_at (t : Fin cfg0.N) (r : Fin 256) (j : Fin 128) (h : ¬ j.val < 16) :
    softplus ((show Vec Ideal S256x128 .f32 from iblk m c 0 t) (ix2 r j) + (show Vec Ideal S1x128 .f32 from iblk m c 1 t) (ix2 0 j))
      = dt (aX m c) (aGd m c) (aSd m c) (row t r) ⟨j.val - 16, by omega⟩ := by
  rw [x_blk, bias_blk m c t j h]
  unfold dt
  rw [show (⟨16 + (j.val - 16), by omega⟩ : Fin 128) = j from Fin.ext (by show 16 + (j.val - 16) = j.val; omega)]

/-- The running sums at a point. -/
theorem second_at (t : Fin cfg0.N) (r : Fin 256) (j : Fin 128) :
    k0_pay1 (F := Ideal) (k0_pay6 (iblk m c 0 t) (iblk m c 1 t) (iblk m c 2 t)) k0_pay7 k0_pay8 (ix2 r j)
      = second (aX m c) (aGa m c) (aGd m c) (aSa m c) (aSd m c) (row t r) j := by
  rw [pay1_at, chunk_sum (fun q => k0_pay6 (F := Ideal) (iblk m c 0 t) (iblk m c 1 t) (iblk m c 2 t) (ix2 q j))]
  unfold second
  by_cases h : j.val < 16
  · rw [if_pos h]
    refine Finset.sum_eq_zero fun e _ => ?_
    dsimp only
    rw [pay6_at, if_pos h, ite_self]
  · rw [if_neg h]
    unfold acs
    have hm : (⟨r.val % 64, by omega⟩ : Fin 64) = ⟨(row t r).val % 64, by omega⟩ := Fin.ext (by show r.val % 64 = (t.val * 256 + r.val) % 64; omega)
    rw [hm]
    congr 1
    funext e
    rw [pay6_at, if_neg h]
    have e1 := dt_at m c t ⟨r.val / 64 * 64 + e.val, by omega⟩ j h
    have e2 := rate_blk m c t j h
    dsimp only at e1 e2
    rw [e1, e2]
    unfold decay
    congr 2
    exact Fin.ext (by show t.val * 256 + (r.val / 64 * 64 + e.val) = (t.val * 256 + r.val) / 64 * 64 + e.val; omega)

theorem first_at (t : Fin cfg0.N) (r : Fin 256) (j : Fin 128) :
    out0_3 (F := Ideal) (iblk m c 0 t) (iblk m c 1 t) (iblk m c 2 t) (ix2 r j)
      = first (aX m c) (aGa m c) (aGd m c) (aSa m c) (aSd m c) (row t r) j := by
  unfold_out out0_3
  frame_out
  refine (pay2_at _ _ _ r j).trans ?_
  rw [second_at, pay5_at, pay4_at]
  unfold first
  by_cases h : j.val < 16
  · rw [if_pos h, if_pos h]
    exact congrArg gate (x_blk m c t r j)
  · rw [if_neg h, if_neg h]
    unfold second
    rw [if_neg h]
    have e1 := dt_at m c t r j h
    dsimp only at e1
    rw [e1]

def G1 : Vec Ideal S16384x128 .f32 := fun y => first (aX m c) (aGa m c) (aGd m c) (aSa m c) (aSd m c) (y 0) (y 1)
def G2 : Vec Ideal S16384x128 .f32 := fun y => second (aX m c) (aGa m c) (aGd m c) (aSa m c) (aSd m c) (y 0) (y 1)
def G3 : Vec Ideal S128x16384 .f32 := fun y => second (aX m c) (aGa m c) (aGd m c) (aSa m c) (aSd m c) (y 1) (y 0)

theorem final3 : (dats m 0 c).arrAt 3 cfg0.N = G1 m c := by
  refine (dats m 0 c).arrAt_eq_of_covers 3 (G1 m c) (by decide +kernel) fun t hf y => ?_
  blk_simp
  rw [after0_3]
  idx_vars y
  refine (first_at m c t y0 y1).trans ?_
  unfold G1
  apply first_congr
  all_goals blk_simp [idx t]

theorem final4 : (dats m 0 c).arrAt 4 cfg0.N = G2 m c := by
  refine (dats m 0 c).arrAt_eq_of_covers 4 (G2 m c) (by decide +kernel) fun t hf y => ?_
  blk_simp
  rw [after0_4]
  idx_vars y
  unfold_out out0_4
  frame_out
  refine (second_at m c t y0 y1).trans ?_
  unfold G2
  apply second_congr
  all_goals blk_simp [idx t]

theorem final5 : (dats m 0 c).arrAt 5 cfg0.N = G3 m c := by
  refine (dats m 0 c).arrAt_eq_of_covers 5 (G3 m c) (by decide +kernel) fun t hf y => ?_
  blk_simp
  rw [after0_5]
  idx_vars y
  unfold_out out0_5
  frame_out
  refine Eq.trans ?_ ((second_at m c t y1 y0).trans ?_)
  · generalize e : k0_pay1 (F := Ideal) (k0_pay6 (iblk m c 0 t) (iblk m c 1 t) (iblk m c 2 t)) k0_pay7 k0_pay8 = s
    unfold k0_pay3
    rw [e]
    pointwise []
  unfold G3
  apply second_congr
  all_goals blk_simp [idx t]

end Cert.Kernel6Ideal.Prep

end
-- ==== Proof.Casts.lean ====
/-
  The two casts of weights: each rounds one layer's weight to the narrower format and puts zeros after its last column or row.
-/
module

public import proofs.«01_k».proof.Proof.Gen.Kernel7.Frame
public import proofs.«01_k».proof.Proof.Gen.Kernel7Ideal.Value
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Read
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem

namespace Cert.Casts

abbrev SC : Shape := ⟨_, ![1, 4096, 11008]⟩
abbrev SR : Shape := ⟨_, ![1, 11008, 4096]⟩

/-- The weight with zeros after its last column. -/
def cols (w : FVec Ideal SC .f32) (i : Fin 4096) (j : Fin 11264) : EReal :=
  if h : j.val < 11008 then w (ix3 0 i ⟨j.val, h⟩) else 0

/-- The weight with zeros after its last row. -/
def rows (w : FVec Ideal SR .f32) (i : Fin 11264) (j : Fin 4096) : EReal :=
  if h : i.val < 11008 then w (ix3 0 ⟨i.val, h⟩ j) else 0

theorem cols_congr (w : FVec Ideal SC .f32) {i i' : Fin 4096} {j j' : Fin 11264} (hi : i.val = i'.val) (hj : j.val = j'.val) :
    cols w i j = cols w i' j' := by
  rw [Fin.ext hi, Fin.ext hj]

theorem rows_congr (w : FVec Ideal SR .f32) {i i' : Fin 11264} {j j' : Fin 4096} (hi : i.val = i'.val) (hj : j.val = j'.val) :
    rows w i j = rows w i' j' := by
  rw [Fin.ext hi, Fin.ext hj]

end Cert.Casts

namespace Cert.Reference7Ideal.Casts

open Cert.Reference7Ideal Cert.Reference7Ideal.Read Cert.Casts

theorem ref_val (w : FVec Ideal SC .f32) (i : Fin 4096) (j : Fin 11264) : val_main_v3 (F := Ideal) w (ix2 i j) = cols w i j := by
  pointwise [val_main_v3, val_main_v2, val_main_v1, val_main_v0, val_main_cst]
  rfl

end Cert.Reference7Ideal.Casts

namespace Cert.Reference8Ideal.Casts

open Cert.Reference8Ideal Cert.Reference8Ideal.Read Cert.Casts

theorem ref_val (w : FVec Ideal SR .f32) (i : Fin 11264) (j : Fin 4096) : val_main_v3 (F := Ideal) w (ix2 i j) = rows w i j := by
  pointwise [val_main_v3, val_main_v2, val_main_v1, val_main_v0, val_main_cst]
  rfl

end Cert.Reference8Ideal.Casts

namespace Cert.Kernel7Ideal.Casts

open Cert.Kernel7Ideal Cert.Kernel7Ideal.Gen Cert.Casts

variable (m : (ℓ : Loc nD τ sig) → Buf (Elt Ideal) ℓ) (c : Dev nD)

abbrev aW : FVec Ideal SC .f32 := m ((c.tc : Thread nD τ).loc main_arg0)

theorem idx : ∀ t : Fin cfg0.N, win0_0.index t = ![t.val, 0] ∧ win0_1.index t = ![t.val, 0] :=
  (by decide +kernel : ∀ t : Fin grid0.N, _)

/-- The layer's weight, as the host hands it over. -/
theorem weight_in (i : Fin 4096) (j : Fin 11008) : (show Vec Ideal S4096x11008 .f32 from V m c main_v0) (ix2 i j) = aW m c (ix3 0 i j) := by
  unfold V
  after_reads_at

theorem blk_in (t : Fin cfg0.N) (l : Fin 128) (j : Fin 11008) :
    (show Vec Ideal S128x11008 .f32 from iblk m c 0 t) (ix2 l j)
      = aW m c (ix3 0 (⟨t.val * 128 + l.val, by have := t.isLt; change t.val < 32 at this; omega⟩ : Fin 4096) j) := by
  rw [← weight_in]
  blk_point [iblk, idx t]

/-- What a point leaves in its block of the result. -/
theorem outBlk (t : Fin cfg0.N) (l : Fin 128) (j : Fin 11264) :
    outsAt0 m c t (ix2 l j) = cols (aW m c) (⟨t.val * 128 + l.val, by have := t.isLt; change t.val < 32 at this; omega⟩ : Fin 4096) j := by
  have e0 := blk_in m c t
  unfold outsAt0 out0_A_1
  frame_out
  unfold cols
  canon_tiles x hx using View.cover_of_tiledBy _ ![128, 256] (by sl_kernel_rfl) _
  · idx_vars x
    change j.val = 11008 + x1.val at hx1
    rw [dif_neg (by omega)]
    pointwise [k0_pay2]
  · idx_vars x
    change l.val = x0.val at hx0
    change j.val = x1.val at hx1
    rw [dif_pos (by omega), show l = x0 from Fin.ext hx0, show (⟨j.val, by omega⟩ : Fin 11008) = x1 from Fin.ext hx1]
    pointwise [k0_pay1]
    exact e0 x0 x1

def G : Vec Ideal S4096x11264 .bf16 := fun y => cols (aW m c) (y 0) (y 1)

theorem final : (dats m 0 c).arrAt 1 cfg0.N = G m c := by
  refine (dats m 0 c).arrAt_eq_of_covers 1 (G m c) (by decide +kernel) fun t hf y => ?_
  blk_simp
  rw [after0_1]
  idx_vars y
  refine (outBlk m c t y0 y1).trans ?_
  unfold G
  apply cols_congr
  all_goals blk_simp [idx t]

end Cert.Kernel7Ideal.Casts

namespace Cert.Kernel8Ideal.Casts

open Cert.Kernel8Ideal Cert.Kernel8Ideal.Gen Cert.Casts

variable (m : (ℓ : Loc nD τ sig) → Buf (Elt Ideal) ℓ) (c : Dev nD)

abbrev aW : FVec Ideal SR .f32 := m ((c.tc : Thread nD τ).loc main_arg0)

theorem idx : ∀ t : Fin cfg0.N, win0_0.index t = ![min t.val 42, 0] ∧ win0_1.index t = ![t.val, 0] ∧ (grid0.coords t 0).val = t.val :=
  (by decide +kernel : ∀ t : Fin grid0.N, _)

/-- The layer's weight, as the host hands it over. -/
theorem weight_in (i : Fin 11008) (j : Fin 4096) : (show Vec Ideal S11008x4096 .f32 from V m c main_v0) (ix2 i j) = aW m c (ix3 0 i j) := by
  unfold V
  after_reads_at

theorem blk_in (t : Fin cfg0.N) (l : Fin 256) (j : Fin 4096) :
    (show Vec Ideal S256x4096 .f32 from iblk m c 0 t) (ix2 l j)
      = aW m c (ix3 0 (⟨min t.val 42 * 256 + l.val, by omega⟩ : Fin 11008) j) := by
  rw [← weight_in]
  blk_point [iblk, idx t]

/-- Whether a block of rows is one of the weight's, as the program computes it. -/
theorem keep_eq : ∀ q : Fin 44, Scalar.cmpi .slt (BitVec.ofNat 32 q.val) 43#32 = if q.val < 43 then 1#1 else 0#1 := by decide +kernel

/-- What a point leaves in its block of the result. -/
theorem outBlk (t : Fin cfg0.N) (l : Fin 256) (j : Fin 4096) :
    out0_1 (F := Ideal) (grid0.coords t) (iblk m c 0 t) (ix2 l j)
      = rows (aW m c) (⟨t.val * 256 + l.val, by have := t.isLt; change t.val < 44 at this; omega⟩ : Fin 11264) j := by
  have ht : t.val < 44 := t.isLt
  have e0 := blk_in m c t l j
  have e := keep_eq ⟨t.val, ht⟩
  frame_out
  pointwise [k0_pay1]
  dsimp only at e e0
  rw [(idx t).2.2, e]
  unfold rows
  by_cases h : t.val < 43
  · rw [if_pos h, dif_pos (by show t.val * 256 + l.val < 11008; omega)]
    refine e0.trans ?_
    congr 2
    exact Fin.ext (by show min t.val 42 * 256 + l.val = t.val * 256 + l.val; omega)
  · rw [if_neg h, dif_neg (by show ¬ t.val * 256 + l.val < 11008; omega)]
    rfl

def G : Vec Ideal S11264x4096 .bf16 := fun y => rows (aW m c) (y 0) (y 1)

theorem final : (dats m 0 c).arrAt 1 cfg0.N = G m c := by
  refine (dats m 0 c).arrAt_eq_of_covers 1 (G m c) (by decide +kernel) fun t hf y => ?_
  blk_simp
  rw [after0_1]
  idx_vars y
  refine (outBlk m c t y0 y1).trans ?_
  unfold G
  apply rows_congr
  all_goals blk_simp [idx t]

end Cert.Kernel8Ideal.Casts

end
-- ==== Proof.lean ====
/- The proof of the certificate's claims: the frames of the programs, the idealization's one rule, and the equality of the
   kernel's and the reference's results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal.StepRun
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2.Frame
public import proofs.«01_k».proof.Proof.Gen.Kernel2Ideal.Value
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Read
public import proofs.«01_k».proof.Proof.SsdAgree
public import proofs.«01_k».proof.Proof.OutProj
public import proofs.«01_k».proof.Proof.FfnDown
public import proofs.«01_k».proof.Proof.FfnUp
public import proofs.«01_k».proof.Proof.InProjFrame
public import proofs.«01_k».proof.Proof.InProjVal
public import proofs.«01_k».proof.Proof.Prep
public import proofs.«01_k».proof.Proof.Casts
public import Idealize.ShloMosaic.Adequacy
public import Idealize.ShloMosaic.Init

@[expose] public section

noncomputable section

namespace Cert.Proof

open Idealize.ShloMosaic Idealize.SL.Sem Cert.Kernel

variable (m : (ℓ : Loc Cert.ReferenceIdeal.nD Cert.ReferenceIdeal.τ Cert.ReferenceIdeal.sig) → Buf (Elt Idealize.ShloMosaic.Ideal) ℓ)

/-- The states of the reference's scan over the chunks. -/
def scan (c : Dev Cert.ReferenceIdeal.nD) (n : ℕ) : Cert.ReferenceIdeal.Step.State Idealize.ShloMosaic.Ideal :=
  Cert.ReferenceIdeal.Ssd.iter (m ((c.tc : Thread Cert.ReferenceIdeal.nD Cert.ReferenceIdeal.τ).loc Cert.ReferenceIdeal.main_arg0))
    (m ((c.tc : Thread Cert.ReferenceIdeal.nD Cert.ReferenceIdeal.τ).loc Cert.ReferenceIdeal.main_arg1))
    (m ((c.tc : Thread Cert.ReferenceIdeal.nD Cert.ReferenceIdeal.τ).loc Cert.ReferenceIdeal.main_arg2)) n

/-- The reference's run, its result read from state number 128. -/
def runRI (g : Dev Cert.ReferenceIdeal.nD → PrngReg) :=
  Cert.ReferenceIdeal.StepRun.run_iter (F := Idealize.ShloMosaic.Ideal) m g (scan m) (fun _ => rfl) (fun _ _ => rfl)

theorem frameRI : Cert.quiescent_ReferenceIdeal (hReferenceIdeal := Cert.ReferenceIdeal.Gen.facts) := by
  intro m g _
  run_from runRI m g
  · exact fun _ => ⟨trivial, trivial, trivial, trivial, trivial⟩
  · funext x
    obtain ⟨d, s⟩ := x
    rcases s with ⟨⟨s, hs⟩⟩ | ⟨⟨s, hs⟩⟩ <;> exact absurd hs (Nat.not_lt_zero _)

theorem algebraic : Cert.algebraic_KernelIdeal_ReferenceIdeal (hKernelIdeal := Cert.KernelIdeal.Gen.facts) (hReferenceIdeal := Cert.ReferenceIdeal.Gen.facts) := by
  pair_intro
  · run_from Cert.KernelIdeal.Value.run_blocks m g
  · run_from runRI m' g'
    unfold scan
    rw [(hagree c).1, (hagree c).2.1, (hagree c).2.2.1, Cert.KernelIdeal.Ssd.final m c]
    exact Cert.Ssd.ref_eq m c

theorem frameRI2 : Cert.quiescent_Reference2Ideal (hReference2Ideal := Cert.Reference2Ideal.Gen.facts) := by
  intro m g _
  run_from Cert.Reference2Ideal.Value.run (F := Idealize.ShloMosaic.Ideal) m g
  · exact fun _ => ⟨trivial, trivial, trivial, trivial, trivial, trivial⟩
  funext x
  obtain ⟨d, s⟩ := x
  rcases s with ⟨⟨s, hs⟩⟩ | ⟨⟨s, hs⟩⟩ <;> exact absurd hs (Nat.not_lt_zero _)

theorem frameRI3 : Cert.quiescent_Reference3Ideal (hReference3Ideal := Cert.Reference3Ideal.Gen.facts) := by
  intro m g _
  run_from Cert.Reference3Ideal.Value.run (F := Idealize.ShloMosaic.Ideal) m g
  · exact fun _ => ⟨trivial, trivial, trivial, trivial⟩
  funext x
  obtain ⟨d, s⟩ := x
  rcases s with ⟨⟨s, hs⟩⟩ | ⟨⟨s, hs⟩⟩ <;> exact absurd hs (Nat.not_lt_zero _)

theorem frameRI4 : Cert.quiescent_Reference4Ideal (hReference4Ideal := Cert.Reference4Ideal.Gen.facts) := by
  intro m g _
  run_from Cert.Reference4Ideal.Value.run (F := Idealize.ShloMosaic.Ideal) m g
  · exact fun _ => ⟨trivial, trivial, trivial, trivial⟩
  funext x
  obtain ⟨d, s⟩ := x
  rcases s with ⟨⟨s, hs⟩⟩ | ⟨⟨s, hs⟩⟩ <;> exact absurd hs (Nat.not_lt_zero _)

theorem frameRI5 : Cert.quiescent_Reference5Ideal (hReference5Ideal := Cert.Reference5Ideal.Gen.facts) := by
  intro m g _
  run_from Cert.Reference5Ideal.Value.run (F := Idealize.ShloMosaic.Ideal) m g
  · exact fun _ => ⟨trivial, trivial, trivial, trivial, trivial, trivial⟩
  funext x
  obtain ⟨d, s⟩ := x
  rcases s with ⟨⟨s, hs⟩⟩ | ⟨⟨s, hs⟩⟩ <;> exact absurd hs (Nat.not_lt_zero _)

theorem frameRI6 : Cert.quiescent_Reference6Ideal (hReference6Ideal := Cert.Reference6Ideal.Gen.facts) := by
  intro m g _
  run_from Cert.Reference6Ideal.Value.run (F := Idealize.ShloMosaic.Ideal) m g
  · exact fun _ => ⟨trivial, trivial, trivial, trivial, trivial⟩
  funext x
  obtain ⟨d, s⟩ := x
  rcases s with ⟨⟨s, hs⟩⟩ | ⟨⟨s, hs⟩⟩ <;> exact absurd hs (Nat.not_lt_zero _)

theorem frameRI7 : Cert.quiescent_Reference7Ideal (hReference7Ideal := Cert.Reference7Ideal.Gen.facts) := by
  intro m g _
  run_from Cert.Reference7Ideal.Value.run (F := Idealize.ShloMosaic.Ideal) m g
  · exact fun _ => trivial
  funext x
  obtain ⟨d, s⟩ := x
  rcases s with ⟨⟨s, hs⟩⟩ | ⟨⟨s, hs⟩⟩ <;> exact absurd hs (Nat.not_lt_zero _)

theorem frameRI8 : Cert.quiescent_Reference8Ideal (hReference8Ideal := Cert.Reference8Ideal.Gen.facts) := by
  intro m g _
  run_from Cert.Reference8Ideal.Value.run (F := Idealize.ShloMosaic.Ideal) m g
  · exact fun _ => trivial
  funext x
  obtain ⟨d, s⟩ := x
  rcases s with ⟨⟨s, hs⟩⟩ | ⟨⟨s, hs⟩⟩ <;> exact absurd hs (Nat.not_lt_zero _)

theorem algebraic2 : Cert.algebraic_Kernel2Ideal_Reference2Ideal (hKernel2Ideal := Cert.Kernel2Ideal.Gen.facts)
    (hReference2Ideal := Cert.Reference2Ideal.Gen.facts) := by
  pair_intro
  · run_from Cert.Kernel2Ideal.Value.run_blocks m g
  · run_from Cert.Reference2Ideal.Value.run m' g'
    rw [Cert.Reference2Ideal.Read.val_main_v47_eq, (hagree c).1, (hagree c).2.1, (hagree c).2.2.1, (hagree c).2.2.2.1, (hagree c).2.2.2.2.1, (hagree c).2.2.2.2.2, Cert.Kernel2Ideal.FfnUp.final m c]
    funext y
    obtain ⟨i, j, rfl⟩ : ∃ (i : Fin 16384) (j : Fin 11264), y = ix2 i j := ⟨y 0, y 1, by funext a; match a with | 0 => rfl | 1 => rfl⟩
    have e : i = Cert.FfnUp.rowOf ⟨i.val / 8192, by omega⟩ ⟨i.val % 8192, by omega⟩ := Fin.ext (by show i.val = i.val / 8192 * 8192 + i.val % 8192; omega)
    exact (congrArg (fun i => Cert.Reference2Ideal.Read.val_main_v47 (F := Idealize.ShloMosaic.Ideal) _ _ _ _ _ _ (ix2 i j)) e).trans
      (Cert.Reference2Ideal.FfnUp.ref_val _ _ _ _ _ _ _ _ j)

theorem algebraic3 : Cert.algebraic_Kernel3Ideal_Reference3Ideal (hKernel3Ideal := Cert.Kernel3Ideal.Gen.facts)
    (hReference3Ideal := Cert.Reference3Ideal.Gen.facts) := by
  pair_intro
  · run_from Cert.Kernel3Ideal.Value.run_blocks m g
  · run_from Cert.Reference3Ideal.Value.run m' g'
    rw [Cert.Reference3Ideal.Read.val_main_v16_eq, Cert.Kernel3Ideal.FfnDown.final m c]
    funext y
    obtain ⟨i, j, rfl⟩ : ∃ (i : Fin 16384) (j : Fin 4096), y = ix2 i j := ⟨y 0, y 1, by funext a; match a with | 0 => rfl | 1 => rfl⟩
    exact Cert.Reference3Ideal.FfnDown.ref_val _ _ _ _ i j

theorem algebraic4 : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Value.run m' g'
    rw [Cert.Reference4Ideal.Read.val_main_v5_eq, (hagree c).2.1, (hagree c).2.2.1, Cert.Kernel4Ideal.OutProj.final m c]
    funext y
    obtain ⟨i, j, rfl⟩ : ∃ (i : Fin 16384) (j : Fin 4096), y = ix2 i j := ⟨y 0, y 1, by funext a; match a with | 0 => rfl | 1 => rfl⟩
    exact Cert.Reference4Ideal.OutProj.ref_val _ _ _ _ i j

theorem algebraic5 : Cert.algebraic_Kernel5Ideal_Reference5Ideal (hKernel5Ideal := Cert.Kernel5Ideal.Gen.facts)
    (hReference5Ideal := Cert.Reference5Ideal.Gen.facts) := by
  pair_intro
  · run_from Cert.Kernel5Ideal.InProj.run_arrays m g
  · run_from Cert.Reference5Ideal.Value.run m' g'
    · rw [Cert.Reference5Ideal.Read.val_main_v109_eq]
      show Cert.Reference5Ideal.Read.val_main_v109 (F := Idealize.ShloMosaic.Ideal) (m' ((c.tc : Thread Cert.Reference5Ideal.nD Cert.Reference5Ideal.τ).loc Cert.Reference5Ideal.main_arg0))
        (m' ((c.tc : Thread Cert.Reference5Ideal.nD Cert.Reference5Ideal.τ).loc Cert.Reference5Ideal.main_arg1))
        (m' ((c.tc : Thread Cert.Reference5Ideal.nD Cert.Reference5Ideal.τ).loc Cert.Reference5Ideal.main_arg2))
        (m' ((c.tc : Thread Cert.Reference5Ideal.nD Cert.Reference5Ideal.τ).loc Cert.Reference5Ideal.main_arg3))
        (m' ((c.tc : Thread Cert.Reference5Ideal.nD Cert.Reference5Ideal.τ).loc Cert.Reference5Ideal.main_arg4))
        (m' ((c.tc : Thread Cert.Reference5Ideal.nD Cert.Reference5Ideal.τ).loc Cert.Reference5Ideal.main_arg5)) = _
      rw [(hagree c).1, (hagree c).2.1, (hagree c).2.2.1, (hagree c).2.2.2.1, (hagree c).2.2.2.2.1, (hagree c).2.2.2.2.2,
        Cert.Kernel5Ideal.InProj.final7 m c]
      funext y
      obtain ⟨i, j, rfl⟩ : ∃ (i : Fin 16384) (j : Fin 14336), y = ix2 i j := ⟨y 0, y 1, by funext a; match a with | 0 => rfl | 1 => rfl⟩
      have e : i = Cert.FfnUp.rowOf ⟨i.val / 8192, by omega⟩ ⟨i.val % 8192, by omega⟩ := Fin.ext (by show i.val = i.val / 8192 * 8192 + i.val % 8192; omega)
      exact (congrArg (fun i => Cert.Reference5Ideal.Read.val_main_v109 (F := Idealize.ShloMosaic.Ideal) _ _ _ _ _ _ (ix2 i j)) e).trans
        (Cert.Reference5Ideal.InProj.out_val _ _ _ _ _ _ _ _ j)
    · rw [Cert.Reference5Ideal.Read.val_main_v110_eq]
      show Cert.Reference5Ideal.Read.val_main_v110 (F := Idealize.ShloMosaic.Ideal) (m' ((c.tc : Thread Cert.Reference5Ideal.nD Cert.Reference5Ideal.τ).loc Cert.Reference5Ideal.main_arg0))
        (m' ((c.tc : Thread Cert.Reference5Ideal.nD Cert.Reference5Ideal.τ).loc Cert.Reference5Ideal.main_arg1))
        (m' ((c.tc : Thread Cert.Reference5Ideal.nD Cert.Reference5Ideal.τ).loc Cert.Reference5Ideal.main_arg2)) = _
      rw [(hagree c).1, (hagree c).2.1, (hagree c).2.2.1, Cert.Kernel5Ideal.InProj.final8 m c]
      funext y
      obtain ⟨i, j, rfl⟩ : ∃ (i : Fin 16384) (j : Fin 128), y = ix2 i j := ⟨y 0, y 1, by funext a; match a with | 0 => rfl | 1 => rfl⟩
      exact Cert.Reference5Ideal.InProj.narrow_val _ _ _ i j

theorem algebraic6 : Cert.algebraic_Kernel6Ideal_Reference6Ideal (hKernel6Ideal := Cert.Kernel6Ideal.Gen.facts)
    (hReference6Ideal := Cert.Reference6Ideal.Gen.facts) := by
  pair_intro
  · run_from Cert.Kernel6Ideal.Value.run_blocks m g
  · run_from Cert.Reference6Ideal.Value.run m' g'
    · rw [Cert.Reference6Ideal.Read.val_main_v29_eq]
      show Cert.Reference6Ideal.Read.val_main_v29 (F := Idealize.ShloMosaic.Ideal) (m' ((c.tc : Thread Cert.Reference6Ideal.nD Cert.Reference6Ideal.τ).loc Cert.Reference6Ideal.main_arg0))
        (m' ((c.tc : Thread Cert.Reference6Ideal.nD Cert.Reference6Ideal.τ).loc Cert.Reference6Ideal.main_arg1))
        (m' ((c.tc : Thread Cert.Reference6Ideal.nD Cert.Reference6Ideal.τ).loc Cert.Reference6Ideal.main_arg2))
        (m' ((c.tc : Thread Cert.Reference6Ideal.nD Cert.Reference6Ideal.τ).loc Cert.Reference6Ideal.main_arg3))
        (m' ((c.tc : Thread Cert.Reference6Ideal.nD Cert.Reference6Ideal.τ).loc Cert.Reference6Ideal.main_arg4)) = _
      rw [(hagree c).1, (hagree c).2.1, (hagree c).2.2.1, (hagree c).2.2.2.1, (hagree c).2.2.2.2,
        Cert.Kernel6Ideal.Prep.final3 m c]
      funext y
      obtain ⟨i, j, rfl⟩ : ∃ (i : Fin 16384) (j : Fin 128), y = ix2 i j := ⟨y 0, y 1, by funext a; match a with | 0 => rfl | 1 => rfl⟩
      exact Cert.Reference6Ideal.Prep.first_val _ _ _ _ _ i j
    · rw [Cert.Reference6Ideal.Read.val_main_v31_eq]
      show Cert.Reference6Ideal.Read.val_main_v31 (F := Idealize.ShloMosaic.Ideal) (m' ((c.tc : Thread Cert.Reference6Ideal.nD Cert.Reference6Ideal.τ).loc Cert.Reference6Ideal.main_arg0))
        (m' ((c.tc : Thread Cert.Reference6Ideal.nD Cert.Reference6Ideal.τ).loc Cert.Reference6Ideal.main_arg1))
        (m' ((c.tc : Thread Cert.Reference6Ideal.nD Cert.Reference6Ideal.τ).loc Cert.Reference6Ideal.main_arg2))
        (m' ((c.tc : Thread Cert.Reference6Ideal.nD Cert.Reference6Ideal.τ).loc Cert.Reference6Ideal.main_arg3))
        (m' ((c.tc : Thread Cert.Reference6Ideal.nD Cert.Reference6Ideal.τ).loc Cert.Reference6Ideal.main_arg4)) = _
      rw [(hagree c).1, (hagree c).2.1, (hagree c).2.2.1, (hagree c).2.2.2.1, (hagree c).2.2.2.2,
        Cert.Kernel6Ideal.Prep.final4 m c]
      funext y
      obtain ⟨i, j, rfl⟩ : ∃ (i : Fin 16384) (j : Fin 128), y = ix2 i j := ⟨y 0, y 1, by funext a; match a with | 0 => rfl | 1 => rfl⟩
      exact Cert.Reference6Ideal.Prep.second_val _ _ _ _ _ i j
    · rw [Cert.Reference6Ideal.Read.val_main_v32_eq]
      show Cert.Reference6Ideal.Read.val_main_v32 (F := Idealize.ShloMosaic.Ideal) (m' ((c.tc : Thread Cert.Reference6Ideal.nD Cert.Reference6Ideal.τ).loc Cert.Reference6Ideal.main_arg0))
        (m' ((c.tc : Thread Cert.Reference6Ideal.nD Cert.Reference6Ideal.τ).loc Cert.Reference6Ideal.main_arg1))
        (m' ((c.tc : Thread Cert.Reference6Ideal.nD Cert.Reference6Ideal.τ).loc Cert.Reference6Ideal.main_arg2))
        (m' ((c.tc : Thread Cert.Reference6Ideal.nD Cert.Reference6Ideal.τ).loc Cert.Reference6Ideal.main_arg3))
        (m' ((c.tc : Thread Cert.Reference6Ideal.nD Cert.Reference6Ideal.τ).loc Cert.Reference6Ideal.main_arg4)) = _
      rw [(hagree c).1, (hagree c).2.1, (hagree c).2.2.1, (hagree c).2.2.2.1, (hagree c).2.2.2.2,
        Cert.Kernel6Ideal.Prep.final5 m c]
      funext y
      obtain ⟨i, j, rfl⟩ : ∃ (i : Fin 128) (j : Fin 16384), y = ix2 i j := ⟨y 0, y 1, by funext a; match a with | 0 => rfl | 1 => rfl⟩
      exact Cert.Reference6Ideal.Prep.third_val _ _ _ _ _ i j

set_option maxRecDepth 65536 in
theorem algebraic7 : Cert.algebraic_Kernel7Ideal_Reference7Ideal (hKernel7Ideal := Cert.Kernel7Ideal.Gen.facts)
    (hReference7Ideal := Cert.Reference7Ideal.Gen.facts) := by
  pair_intro
  · run_from Cert.Kernel7Ideal.Value.run_blocks m g
  · run_from Cert.Reference7Ideal.Value.run m' g'
    rw [Cert.Reference7Ideal.Read.val_main_v3_eq]
    show Cert.Reference7Ideal.Read.val_main_v3 (F := Idealize.ShloMosaic.Ideal)
      (m' ((c.tc : Thread Cert.Reference7Ideal.nD Cert.Reference7Ideal.τ).loc Cert.Reference7Ideal.main_arg0)) = _
    rw [hagree c, Cert.Kernel7Ideal.Casts.final m c]
    funext y
    obtain ⟨i, j, rfl⟩ : ∃ (i : Fin 4096) (j : Fin 11264), y = ix2 i j := ⟨y 0, y 1, by funext a; match a with | 0 => rfl | 1 => rfl⟩
    exact Cert.Reference7Ideal.Casts.ref_val _ i j

theorem algebraic8 : Cert.algebraic_Kernel8Ideal_Reference8Ideal (hKernel8Ideal := Cert.Kernel8Ideal.Gen.facts)
    (hReference8Ideal := Cert.Reference8Ideal.Gen.facts) := by
  pair_intro
  · run_from Cert.Kernel8Ideal.Value.run_blocks m g
  · run_from Cert.Reference8Ideal.Value.run m' g'
    rw [Cert.Reference8Ideal.Read.val_main_v3_eq]
    show Cert.Reference8Ideal.Read.val_main_v3 (F := Idealize.ShloMosaic.Ideal)
      (m' ((c.tc : Thread Cert.Reference8Ideal.nD Cert.Reference8Ideal.τ).loc Cert.Reference8Ideal.main_arg0)) = _
    rw [hagree c, Cert.Kernel8Ideal.Casts.final m c]
    funext y
    obtain ⟨i, j, rfl⟩ : ∃ (i : Fin 11264) (j : Fin 4096), y = ix2 i j := ⟨y 0, y 1, by funext a; match a with | 0 => rfl | 1 => rfl⟩
    exact Cert.Reference8Ideal.Casts.ref_val _ i j

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    fun m ρ _ => Cert.Kernel.Gen.frame m ρ, fun m ρ _ => Cert.KernelIdeal.Gen.frame m ρ, frameRI,
    fun m ρ _ => Cert.Kernel2.Gen.frame m ρ, fun m ρ _ => Cert.Kernel2Ideal.Gen.frame m ρ, frameRI2,
    fun m ρ _ => Cert.Kernel3.Gen.frame m ρ, fun m ρ _ => Cert.Kernel3Ideal.Gen.frame m ρ, frameRI3,
    fun m ρ _ => Cert.Kernel4.Gen.frame m ρ, fun m ρ _ => Cert.Kernel4Ideal.Gen.frame m ρ, frameRI4,
    fun m ρ _ => Cert.Kernel5.InProj.frame m ρ, fun m ρ _ => Cert.Kernel5Ideal.InProj.frame m ρ, frameRI5,
    fun m ρ _ => Cert.Kernel6.Gen.frame m ρ, fun m ρ _ => Cert.Kernel6Ideal.Gen.frame m ρ, frameRI6,
    fun m ρ _ => Cert.Kernel7.Gen.frame m ρ, fun m ρ _ => Cert.Kernel7Ideal.Gen.frame m ρ, frameRI7,
    fun m ρ _ => Cert.Kernel8.Gen.frame m ρ, fun m ρ _ => Cert.Kernel8Ideal.Gen.frame m ρ, frameRI8,
    IdealRules.named_const.statement Cert.KernelIdeal.κ "mask" .f32 0xF149F2CA#32 ⊥ rfl, algebraic,
    trivial, algebraic2, trivial, algebraic3, trivial, algebraic4, trivial, algebraic5,
    trivial, algebraic6, trivial, algebraic7, trivial, algebraic8⟩

end Cert.Proof

end
